-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x65536x3 : Shape := ⟨3, ![32, 65536, 3]⟩
abbrev S32x96x2048 : Shape := ⟨3, ![32, 96, 2048]⟩
abbrev S32x2048x96 : Shape := ⟨3, ![32, 2048, 96]⟩
abbrev S_ : Shape := ⟨0, ![]⟩
abbrev S32x2048x128 : Shape := ⟨3, ![32, 2048, 128]⟩
abbrev S32x1x2048x128 : Shape := ⟨4, ![32, 1, 2048, 128]⟩
abbrev S32x2x2048x128 : Shape := ⟨4, ![32, 2, 2048, 128]⟩
abbrev S1x1x2048x128 : Shape := ⟨4, ![1, 1, 2048, 128]⟩
abbrev S64x128 : Shape := ⟨2, ![64, 128]⟩
abbrev S1x1x64x128 : Shape := ⟨4, ![1, 1, 64, 128]⟩
abbrev S4x2x8x128 : Shape := ⟨4, ![4, 2, 8, 128]⟩
abbrev S4x1x8x128 : Shape := ⟨4, ![4, 1, 8, 128]⟩
abbrev S4x8x128 : Shape := ⟨3, ![4, 8, 128]⟩
abbrev S2x2x16x128 : Shape := ⟨4, ![2, 2, 16, 128]⟩
abbrev S2x1x16x128 : Shape := ⟨4, ![2, 1, 16, 128]⟩
abbrev S2x16x128 : Shape := ⟨3, ![2, 16, 128]⟩
abbrev S1x2x32x128 : Shape := ⟨4, ![1, 2, 32, 128]⟩
abbrev S1x1x32x128 : Shape := ⟨4, ![1, 1, 32, 128]⟩
abbrev S1x32x128 : Shape := ⟨3, ![1, 32, 128]⟩
abbrev S32x8x128 : Shape := ⟨3, ![32, 8, 128]⟩
abbrev S1x2x2048x128 : Shape := ⟨4, ![1, 2, 2048, 128]⟩
abbrev S1x8x128 : Shape := ⟨3, ![1, 8, 128]⟩
abbrev S2048x128 : Shape := ⟨2, ![2048, 128]⟩
abbrev S1x2048x128 : Shape := ⟨3, ![1, 2048, 128]⟩
abbrev S1 : Shape := ⟨1, ![1]⟩
abbrev S1x1x1 : Shape := ⟨3, ![1, 1, 1]⟩
abbrev S8x128 : Shape := ⟨2, ![8, 128]⟩
abbrev S32x1x1 : Shape := ⟨3, ![32, 1, 1]⟩
abbrev S32 : Shape := ⟨1, ![32]⟩

abbrev nBuf : Space → Nat
  | .hbm => 24
  | .vmem => 8
  | .smem => 0
  | _ => 0

abbrev bufTy : (tb : Table) → Fin (tcTables nBuf tb) → BufTy
  | .hbm, ⟨0, _⟩ => ⟨S32x65536x3, .f32⟩
  | .hbm, ⟨1, _⟩ => ⟨S32x65536x3, .f32⟩
  | .hbm, ⟨2, _⟩ => ⟨S32x96x2048, .f32⟩
  | .hbm, ⟨3, _⟩ => ⟨S32x2048x96, .f32⟩
  | .hbm, ⟨4, _⟩ => ⟨S_, .f32⟩
  | .hbm, ⟨5, _⟩ => ⟨S_, .f32⟩
  | .hbm, ⟨6, _⟩ => ⟨S32x2048x128, .f32⟩
  | .hbm, ⟨7, _⟩ => ⟨S32x96x2048, .f32⟩
  | .hbm, ⟨8, _⟩ => ⟨S32x2048x96, .f32⟩
  | .hbm, ⟨9, _⟩ => ⟨S_, .f32⟩
  | .hbm, ⟨10, _⟩ => ⟨S_, .f32⟩
  | .hbm, ⟨11, _⟩ => ⟨S32x2048x128, .f32⟩
  | .hbm, ⟨12, _⟩ => ⟨S32x1x2048x128, .f32⟩
  | .hbm, ⟨13, _⟩ => ⟨S32x1x2048x128, .f32⟩
  | .hbm, ⟨14, _⟩ => ⟨S32x2x2048x128, .f32⟩
  | .hbm, ⟨15, _⟩ => ⟨S32x2x2048x128, .f32⟩
  | .hbm, ⟨16, _⟩ => ⟨S32x8x128, .f32⟩
  | .hbm, ⟨17, _⟩ => ⟨S32x1x1, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x2x2048x128, .f32⟩
  | .local _ .vmem, ⟨5, _⟩ => ⟨S1x2x2048x128, .f32⟩
  | .local _ .vmem, ⟨6, _⟩ => ⟨S1x8x128, .f32⟩
  | .local _ .vmem, ⟨7, _⟩ => ⟨S1x8x128, .f32⟩
  | _, _ => ⟨S32x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_off1 (k0_t1 : Fin k0_t1_loop.trips) : Fin 4 → Nat :=
  let c0 : Index := 0#32
  let c0_160 : Index := 0#32
  let c2_i32 : BitVec 32 := 2#32
  let c0_i32 : BitVec 32 := 0#32
  let c1_i32 : BitVec 32 := 1#32
  let arg4 : BitVec 32 := Scf.iv c0_i32 c1_i32 k0_t1
  let v43 : BitVec 32 := Scalar.muli c2_i32 arg4
  let c64_i32 : BitVec 32 := 64#32
  let v44 : BitVec 32 := Scalar.muli v43 c64_i32
  let v45 : Index := Scalar.indexCast v44
  let c0_161 : Index := 0#32
  ![0, 0, v45.toNat, 0]
def k0_off2 (k0_t1 : Fin k0_t1_loop.trips) : Fin 4 → Nat :=
  let c0_246 : Index := 0#32
  let c0_247 : Index := 0#32
  let c2_i32_243 : BitVec 32 := 2#32
  let c0_i32 : BitVec 32 := 0#32
  let c1_i32 : BitVec 32 := 1#32
  let arg4 : BitVec 32 := Scf.iv c0_i32 c1_i32 k0_t1
  let v343 : BitVec 32 := Scalar.muli c2_i32_243 arg4
  let c1_i32_244 : BitVec 32 := 1#32
  let v344 : BitVec 32 := Scalar.addi v343 c1_i32_244
  let c64_i32_245 : BitVec 32 := 64#32
  let v345 : BitVec 32 := Scalar.muli v344 c64_i32_245
  let v346 : Index := Scalar.indexCast v345
  let c0_248 : Index := 0#32
  ![0, 0, v346.toNat, 0]
@[reducible] def k0_t2_loop : Scf.Loop 32 :=
  let c0_i32_1 : BitVec 32 := 0#32
  let c8_i32 : BitVec 32 := 8#32
  let v3 : BitVec 32 := Scalar.addi c0_i32_1 c8_i32
  let c1_i32_2 : BitVec 32 := 1#32
  ⟨c0_i32_1, v3, c1_i32_2⟩
def k0_off3 (k0_t2 : Fin k0_t2_loop.trips) : Fin 4 → Nat :=
  let c0 : Index := 0#32
  let c0_164 : Index := 0#32
  let c2_i32 : BitVec 32 := 2#32
  let c0_i32_1 : BitVec 32 := 0#32
  let c1_i32_2 : BitVec 32 := 1#32
  let arg4 : BitVec 32 := Scf.iv c0_i32_1 c1_i32_2 k0_t2
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off4 (k0_t2 : Fin k0_t2_loop.trips) : Fin 4 → Nat :=
  let c0_167 : Index := 0#32
  let c0_168 : Index := 0#32
  let c2_i32 : BitVec 32 := 2#32
  let c0_i32_1 : BitVec 32 := 0#32
  let c1_i32_2 : BitVec 32 := 1#32
  let arg4 : BitVec 32 := Scf.iv c0_i32_1 c1_i32_2 k0_t2
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off5 (k0_t2 : Fin k0_t2_loop.trips) : Fin 4 → Nat :=
  let c0_186 : Index := 0#32
  let c0_187 : Index := 0#32
  let c2_i32_179 : BitVec 32 := 2#32
  let c0_i32_1 : BitVec 32 := 0#32
  let c1_i32_2 : BitVec 32 := 1#32
  let arg4 : BitVec 32 := Scf.iv c0_i32_1 c1_i32_2 k0_t2
  let v73 : BitVec 32 := Scalar.muli c2_i32_179 arg4
  let c1_i32_180 : BitVec 32 := 1#32
  let v74 : BitVec 32 := Scalar.addi v73 c1_i32_180
  let c1_i32_181 : BitVec 32 := 1#32
  let v75 : BitVec 32 := Scalar.shrsi v74 c1_i32_181
  let c2_i32_182 : BitVec 32 := 2#32
  let v76 : BitVec 32 := Scalar.shli v75 c2_i32_182
  let c1_i32_183 : BitVec 32 := 1#32
  let v77 : BitVec 32 := Scalar.andi v74 c1_i32_183
  let v78 : BitVec 32 := Scalar.ori v76 v77
  let c64_i32_185 : BitVec 32 := 64#32
  let v80 : BitVec 32 := Scalar.muli v78 c64_i32_185
  let v81 : Index := Scalar.indexCast v80
  let c0_188 : Index := 0#32
  ![0, 0, v81.toNat, 0]
def k0_off6 (k0_t2 : Fin k0_t2_loop.trips) : Fin 4 → Nat :=
  let c0_190 : Index := 0#32
  let c0_191 : Index := 0#32
  let c2_i32_179 : BitVec 32 := 2#32
  let c0_i32_1 : BitVec 32 := 0#32
  let c1_i32_2 : BitVec 32 := 1#32
  let arg4 : BitVec 32 := Scf.iv c0_i32_1 c1_i32_2 k0_t2
  let v73 : BitVec 32 := Scalar.muli c2_i32_179 arg4
  let c1_i32_180 : BitVec 32 := 1#32
  let v74 : BitVec 32 := Scalar.addi v73 c1_i32_180
  let c1_i32_181 : BitVec 32 := 1#32
  let v75 : BitVec 32 := Scalar.shrsi v74 c1_i32_181
  let c2_i32_182 : BitVec 32 := 2#32
  let v76 : BitVec 32 := Scalar.shli v75 c2_i32_182
  let c1_i32_183 : BitVec 32 := 1#32
  let v77 : BitVec 32 := Scalar.andi v74 c1_i32_183
  let v78 : BitVec 32 := Scalar.ori v76 v77
  let c2_i32_184 : BitVec 32 := 2#32
  let v79 : BitVec 32 := Scalar.addi v78 c2_i32_184
  let c64_i32_189 : BitVec 32 := 64#32
  let v84 : BitVec 32 := Scalar.muli v79 c64_i32_189
  let v85 : Index := Scalar.indexCast v84
  let c0_192 : Index := 0#32
  ![0, 0, v85.toNat, 0]
@[reducible] def k0_t3_loop : Scf.Loop 32 :=
  let c0_i32_4 : BitVec 32 := 0#32
  let c8_i32_5 : BitVec 32 := 8#32
  let v4 : BitVec 32 := Scalar.addi c0_i32_4 c8_i32_5
  let c1_i32_6 : BitVec 32 := 1#32
  ⟨c0_i32_4, v4, c1_i32_6⟩
def k0_off7 (k0_t3 : Fin k0_t3_loop.trips) : Fin 4 → Nat :=
  let c0 : Index := 0#32
  let c0_164 : Index := 0#32
  let c2_i32 : BitVec 32 := 2#32
  let c0_i32_4 : BitVec 32 := 0#32
  let c1_i32_6 : BitVec 32 := 1#32
  let arg4 : BitVec 32 := Scf.iv c0_i32_4 c1_i32_6 k0_t3
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off8 (k0_t3 : Fin k0_t3_loop.trips) : Fin 4 → Nat :=
  let c0_167 : Index := 0#32
  let c0_168 : Index := 0#32
  let c2_i32 : BitVec 32 := 2#32
  let c0_i32_4 : BitVec 32 := 0#32
  let c1_i32_6 : BitVec 32 := 1#32
  let arg4 : BitVec 32 := Scf.iv c0_i32_4 c1_i32_6 k0_t3
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off9 (k0_t3 : Fin k0_t3_loop.trips) : Fin 4 → Nat :=
  let c0_216 : Index := 0#32
  let c0_217 : Index := 0#32
  let c2_i32_209 : BitVec 32 := 2#32
  let c0_i32_4 : BitVec 32 := 0#32
  let c1_i32_6 : BitVec 32 := 1#32
  let arg4 : BitVec 32 := Scf.iv c0_i32_4 c1_i32_6 k0_t3
  let v239 : BitVec 32 := Scalar.muli c2_i32_209 arg4
  let c1_i32_210 : BitVec 32 := 1#32
  let v240 : BitVec 32 := Scalar.addi v239 c1_i32_210
  let c0_i32_211 : BitVec 32 := 0#32
  let v241 : BitVec 32 := Scalar.shrsi v240 c0_i32_211
  let c1_i32_212 : BitVec 32 := 1#32
  let v242 : BitVec 32 := Scalar.shli v241 c1_i32_212
  let c0_i32_213 : BitVec 32 := 0#32
  let v243 : BitVec 32 := Scalar.andi v240 c0_i32_213
  let v244 : BitVec 32 := Scalar.ori v242 v243
  let c64_i32_215 : BitVec 32 := 64#32
  let v246 : BitVec 32 := Scalar.muli v244 c64_i32_215
  let v247 : Index := Scalar.indexCast v246
  let c0_218 : Index := 0#32
  ![0, 0, v247.toNat, 0]
def k0_off10 (k0_t3 : Fin k0_t3_loop.trips) : Fin 4 → Nat :=
  let c0_220 : Index := 0#32
  let c0_221 : Index := 0#32
  let c2_i32_209 : BitVec 32 := 2#32
  let c0_i32_4 : BitVec 32 := 0#32
  let c1_i32_6 : BitVec 32 := 1#32
  let arg4 : BitVec 32 := Scf.iv c0_i32_4 c1_i32_6 k0_t3
  let v239 : BitVec 32 := Scalar.muli c2_i32_209 arg4
  let c1_i32_210 : BitVec 32 := 1#32
  let v240 : BitVec 32 := Scalar.addi v239 c1_i32_210
  let c0_i32_211 : BitVec 32 := 0#32
  let v241 : BitVec 32 := Scalar.shrsi v240 c0_i32_211
  let c1_i32_212 : BitVec 32 := 1#32
  let v242 : BitVec 32 := Scalar.shli v241 c1_i32_212
  let c0_i32_213 : BitVec 32 := 0#32
  let v243 : BitVec 32 := Scalar.andi v240 c0_i32_213
  let v244 : BitVec 32 := Scalar.ori v242 v243
  let c1_i32_214 : BitVec 32 := 1#32
  let v245 : BitVec 32 := Scalar.addi v244 c1_i32_214
  let c64_i32_219 : BitVec 32 := 64#32
  let v250 : BitVec 32 := Scalar.muli v245 c64_i32_219
  let v251 : Index := Scalar.indexCast v250
  let c0_222 : Index := 0#32
  ![0, 0, v251.toNat, 0]
@[reducible] def k0_t4_loop : Scf.Loop 32 :=
  let c0_i32_8 : BitVec 32 := 0#32
  let c8_i32_9 : BitVec 32 := 8#32
  let v5 : BitVec 32 := Scalar.addi c0_i32_8 c8_i32_9
  let c1_i32_10 : BitVec 32 := 1#32
  ⟨c0_i32_8, v5, c1_i32_10⟩
def k0_off11 (k0_t4 : Fin k0_t4_loop.trips) : Fin 4 → Nat :=
  let c0 : Index := 0#32
  let c0_162 : Index := 0#32
  let c2_i32 : BitVec 32 := 2#32
  let c0_i32_8 : BitVec 32 := 0#32
  let c1_i32_10 : BitVec 32 := 1#32
  let arg4 : BitVec 32 := Scf.iv c0_i32_8 c1_i32_10 k0_t4
  let v43 : BitVec 32 := Scalar.muli c2_i32 arg4
  let c2_i32_160 : BitVec 32 := 2#32
  let v44 : BitVec 32 := Scalar.shrsi v43 c2_i32_160
  let c3_i32 : BitVec 32 := 3#32
  let v45 : BitVec 32 := Scalar.shli v44 c3_i32
  let c3_i32_161 : BitVec 32 := 3#32
  let v46 : BitVec 32 := Scalar.andi v43 c3_i32_161
  let v47 : BitVec 32 := Scalar.ori v45 v46
  let c64_i32 : BitVec 32 := 64#32
  let v49 : BitVec 32 := Scalar.muli v47 c64_i32
  let v50 : Index := Scalar.indexCast v49
  let c0_163 : Index := 0#32
  ![0, 0, v50.toNat, 0]
def k0_off12 (k0_t4 : Fin k0_t4_loop.trips) : Fin 4 → Nat :=
  let c0_165 : Index := 0#32
  let c0_166 : Index := 0#32
  let c2_i32 : BitVec 32 := 2#32
  let c0_i32_8 : BitVec 32 := 0#32
  let c1_i32_10 : BitVec 32 := 1#32
  let arg4 : BitVec 32 := Scf.iv c0_i32_8 c1_i32_10 k0_t4
  let v43 : BitVec 32 := Scalar.muli c2_i32 arg4
  let c2_i32_160 : BitVec 32 := 2#32
  let v44 : BitVec 32 := Scalar.shrsi v43 c2_i32_160
  let c3_i32 : BitVec 32 := 3#32
  let v45 : BitVec 32 := Scalar.shli v44 c3_i32
  let c3_i32_161 : BitVec 32 := 3#32
  let v46 : BitVec 32 := Scalar.andi v43 c3_i32_161
  let v47 : BitVec 32 := Scalar.ori v45 v46
  let c4_i32 : BitVec 32 := 4#32
  let v48 : BitVec 32 := Scalar.addi v47 c4_i32
  let c64_i32_164 : BitVec 32 := 64#32
  let v53 : BitVec 32 := Scalar.muli v48 c64_i32_164
  let v54 : Index := Scalar.indexCast v53
  let c0_167 : Index := 0#32
  ![0, 0, v54.toNat, 0]
def k0_off13 (k0_t4 : Fin k0_t4_loop.trips) : Fin 4 → Nat :=
  let c0_185 : Index := 0#32
  let c0_186 : Index := 0#32
  let c2_i32_178 : BitVec 32 := 2#32
  let c0_i32_8 : BitVec 32 := 0#32
  let c1_i32_10 : BitVec 32 := 1#32
  let arg4 : BitVec 32 := Scf.iv c0_i32_8 c1_i32_10 k0_t4
  let v73 : BitVec 32 := Scalar.muli c2_i32_178 arg4
  let c1_i32_179 : BitVec 32 := 1#32
  let v74 : BitVec 32 := Scalar.addi v73 c1_i32_179
  let c2_i32_180 : BitVec 32 := 2#32
  let v75 : BitVec 32 := Scalar.shrsi v74 c2_i32_180
  let c3_i32_181 : BitVec 32 := 3#32
  let v76 : BitVec 32 := Scalar.shli v75 c3_i32_181
  let c3_i32_182 : BitVec 32 := 3#32
  let v77 : BitVec 32 := Scalar.andi v74 c3_i32_182
  let v78 : BitVec 32 := Scalar.ori v76 v77
  let c64_i32_184 : BitVec 32 := 64#32
  let v80 : BitVec 32 := Scalar.muli v78 c64_i32_184
  let v81 : Index := Scalar.indexCast v80
  let c0_187 : Index := 0#32
  ![0, 0, v81.toNat, 0]
def k0_off14 (k0_t4 : Fin k0_t4_loop.trips) : Fin 4 → Nat :=
  let c0_189 : Index := 0#32
  let c0_190 : Index := 0#32
  let c2_i32_178 : BitVec 32 := 2#32
  let c0_i32_8 : BitVec 32 := 0#32
  let c1_i32_10 : BitVec 32 := 1#32
  let arg4 : BitVec 32 := Scf.iv c0_i32_8 c1_i32_10 k0_t4
  let v73 : BitVec 32 := Scalar.muli c2_i32_178 arg4
  let c1_i32_179 : BitVec 32 := 1#32
  let v74 : BitVec 32 := Scalar.addi v73 c1_i32_179
  let c2_i32_180 : BitVec 32 := 2#32
  let v75 : BitVec 32 := Scalar.shrsi v74 c2_i32_180
  let c3_i32_181 : BitVec 32 := 3#32
  let v76 : BitVec 32 := Scalar.shli v75 c3_i32_181
  let c3_i32_182 : BitVec 32 := 3#32
  let v77 : BitVec 32 := Scalar.andi v74 c3_i32_182
  let v78 : BitVec 32 := Scalar.ori v76 v77
  let c4_i32_183 : BitVec 32 := 4#32
  let v79 : BitVec 32 := Scalar.addi v78 c4_i32_183
  let c64_i32_188 : BitVec 32 := 64#32
  let v84 : BitVec 32 := Scalar.muli v79 c64_i32_188
  let v85 : Index := Scalar.indexCast v84
  let c0_191 : Index := 0#32
  ![0, 0, v85.toNat, 0]
@[reducible] def k0_t5_loop : Scf.Loop 32 :=
  let c0_i32_12 : BitVec 32 := 0#32
  let c8_i32_13 : BitVec 32 := 8#32
  let v6 : BitVec 32 := Scalar.addi c0_i32_12 c8_i32_13
  let c1_i32_14 : BitVec 32 := 1#32
  ⟨c0_i32_12, v6, c1_i32_14⟩
def k0_off15 (k0_t5 : Fin k0_t5_loop.trips) : Fin 4 → Nat :=
  let c0 : Index := 0#32
  let c0_164 : Index := 0#32
  let c2_i32 : BitVec 32 := 2#32
  let c0_i32_12 : BitVec 32 := 0#32
  let c1_i32_14 : BitVec 32 := 1#32
  let arg4 : BitVec 32 := Scf.iv c0_i32_12 c1_i32_14 k0_t5
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off16 (k0_t5 : Fin k0_t5_loop.trips) : Fin 4 → Nat :=
  let c0_167 : Index := 0#32
  let c0_168 : Index := 0#32
  let c2_i32 : BitVec 32 := 2#32
  let c0_i32_12 : BitVec 32 := 0#32
  let c1_i32_14 : BitVec 32 := 1#32
  let arg4 : BitVec 32 := Scf.iv c0_i32_12 c1_i32_14 k0_t5
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off17 (k0_t5 : Fin k0_t5_loop.trips) : Fin 4 → Nat :=
  let c0_187 : Index := 0#32
  let c0_188 : Index := 0#32
  let c2_i32_180 : BitVec 32 := 2#32
  let c0_i32_12 : BitVec 32 := 0#32
  let c1_i32_14 : BitVec 32 := 1#32
  let arg4 : BitVec 32 := Scf.iv c0_i32_12 c1_i32_14 k0_t5
  let v73 : BitVec 32 := Scalar.muli c2_i32_180 arg4
  let c1_i32_181 : BitVec 32 := 1#32
  let v74 : BitVec 32 := Scalar.addi v73 c1_i32_181
  let c1_i32_182 : BitVec 32 := 1#32
  let v75 : BitVec 32 := Scalar.shrsi v74 c1_i32_182
  let c2_i32_183 : BitVec 32 := 2#32
  let v76 : BitVec 32 := Scalar.shli v75 c2_i32_183
  let c1_i32_184 : BitVec 32 := 1#32
  let v77 : BitVec 32 := Scalar.andi v74 c1_i32_184
  let v78 : BitVec 32 := Scalar.ori v76 v77
  let c64_i32_186 : BitVec 32 := 64#32
  let v80 : BitVec 32 := Scalar.muli v78 c64_i32_186
  let v81 : Index := Scalar.indexCast v80
  let c0_189 : Index := 0#32
  ![0, 0, v81.toNat, 0]
def k0_off18 (k0_t5 : Fin k0_t5_loop.trips) : Fin 4 → Nat :=
  let c0_191 : Index := 0#32
  let c0_192 : Index := 0#32
  let c2_i32_180 : BitVec 32 := 2#32
  let c0_i32_12 : BitVec 32 := 0#32
  let c1_i32_14 : BitVec 32 := 1#32
  let arg4 : BitVec 32 := Scf.iv c0_i32_12 c1_i32_14 k0_t5
  let v73 : BitVec 32 := Scalar.muli c2_i32_180 arg4
  let c1_i32_181 : BitVec 32 := 1#32
  let v74 : BitVec 32 := Scalar.addi v73 c1_i32_181
  let c1_i32_182 : BitVec 32 := 1#32
  let v75 : BitVec 32 := Scalar.shrsi v74 c1_i32_182
  let c2_i32_183 : BitVec 32 := 2#32
  let v76 : BitVec 32 := Scalar.shli v75 c2_i32_183
  let c1_i32_184 : BitVec 32 := 1#32
  let v77 : BitVec 32 := Scalar.andi v74 c1_i32_184
  let v78 : BitVec 32 := Scalar.ori v76 v77
  let c2_i32_185 : BitVec 32 := 2#32
  let v79 : BitVec 32 := Scalar.addi v78 c2_i32_185
  let c64_i32_190 : BitVec 32 := 64#32
  let v84 : BitVec 32 := Scalar.muli v79 c64_i32_190
  let v85 : Index := Scalar.indexCast v84
  let c0_193 : Index := 0#32
  ![0, 0, v85.toNat, 0]
@[reducible] def k0_t6_loop : Scf.Loop 32 :=
  let c0_i32_16 : BitVec 32 := 0#32
  let c8_i32_17 : BitVec 32 := 8#32
  let v7 : BitVec 32 := Scalar.addi c0_i32_16 c8_i32_17
  let c1_i32_18 : BitVec 32 := 1#32
  ⟨c0_i32_16, v7, c1_i32_18⟩
def k0_off19 (k0_t6 : Fin k0_t6_loop.trips) : Fin 4 → Nat :=
  let c0 : Index := 0#32
  let c0_164 : Index := 0#32
  let c2_i32 : BitVec 32 := 2#32
  let c0_i32_16 : BitVec 32 := 0#32
  let c1_i32_18 : BitVec 32 := 1#32
  let arg4 : BitVec 32 := Scf.iv c0_i32_16 c1_i32_18 k0_t6
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off20 (k0_t6 : Fin k0_t6_loop.trips) : Fin 4 → Nat :=
  let c0_167 : Index := 0#32
  let c0_168 : Index := 0#32
  let c2_i32 : BitVec 32 := 2#32
  let c0_i32_16 : BitVec 32 := 0#32
  let c1_i32_18 : BitVec 32 := 1#32
  let arg4 : BitVec 32 := Scf.iv c0_i32_16 c1_i32_18 k0_t6
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off21 (k0_t6 : Fin k0_t6_loop.trips) : Fin 4 → Nat :=
  let c0_216 : Index := 0#32
  let c0_217 : Index := 0#32
  let c2_i32_209 : BitVec 32 := 2#32
  let c0_i32_16 : BitVec 32 := 0#32
  let c1_i32_18 : BitVec 32 := 1#32
  let arg4 : BitVec 32 := Scf.iv c0_i32_16 c1_i32_18 k0_t6
  let v239 : BitVec 32 := Scalar.muli c2_i32_209 arg4
  let c1_i32_210 : BitVec 32 := 1#32
  let v240 : BitVec 32 := Scalar.addi v239 c1_i32_210
  let c0_i32_211 : BitVec 32 := 0#32
  let v241 : BitVec 32 := Scalar.shrsi v240 c0_i32_211
  let c1_i32_212 : BitVec 32 := 1#32
  let v242 : BitVec 32 := Scalar.shli v241 c1_i32_212
  let c0_i32_213 : BitVec 32 := 0#32
  let v243 : BitVec 32 := Scalar.andi v240 c0_i32_213
  let v244 : BitVec 32 := Scalar.ori v242 v243
  let c64_i32_215 : BitVec 32 := 64#32
  let v246 : BitVec 32 := Scalar.muli v244 c64_i32_215
  let v247 : Index := Scalar.indexCast v246
  let c0_218 : Index := 0#32
  ![0, 0, v247.toNat, 0]
def k0_off22 (k0_t6 : Fin k0_t6_loop.trips) : Fin 4 → Nat :=
  let c0_220 : Index := 0#32
  let c0_221 : Index := 0#32
  let c2_i32_209 : BitVec 32 := 2#32
  let c0_i32_16 : BitVec 32 := 0#32
  let c1_i32_18 : BitVec 32 := 1#32
  let arg4 : BitVec 32 := Scf.iv c0_i32_16 c1_i32_18 k0_t6
  let v239 : BitVec 32 := Scalar.muli c2_i32_209 arg4
  let c1_i32_210 : BitVec 32 := 1#32
  let v240 : BitVec 32 := Scalar.addi v239 c1_i32_210
  let c0_i32_211 : BitVec 32 := 0#32
  let v241 : BitVec 32 := Scalar.shrsi v240 c0_i32_211
  let c1_i32_212 : BitVec 32 := 1#32
  let v242 : BitVec 32 := Scalar.shli v241 c1_i32_212
  let c0_i32_213 : BitVec 32 := 0#32
  let v243 : BitVec 32 := Scalar.andi v240 c0_i32_213
  let v244 : BitVec 32 := Scalar.ori v242 v243
  let c1_i32_214 : BitVec 32 := 1#32
  let v245 : BitVec 32 := Scalar.addi v244 c1_i32_214
  let c64_i32_219 : BitVec 32 := 64#32
  let v250 : BitVec 32 := Scalar.muli v245 c64_i32_219
  let v251 : Index := Scalar.indexCast v250
  let c0_222 : Index := 0#32
  ![0, 0, v251.toNat, 0]
@[reducible] def k0_t7_loop : Scf.Loop 32 :=
  let c0_i32_20 : BitVec 32 := 0#32
  let c8_i32_21 : BitVec 32 := 8#32
  let v8 : BitVec 32 := Scalar.addi c0_i32_20 c8_i32_21
  let c1_i32_22 : BitVec 32 := 1#32
  ⟨c0_i32_20, v8, c1_i32_22⟩
def k0_off23 (k0_t7 : Fin k0_t7_loop.trips) : Fin 4 → Nat :=
  let c0 : Index := 0#32
  let c0_161 : Index := 0#32
  let c2_i32 : BitVec 32 := 2#32
  let c0_i32_20 : BitVec 32 := 0#32
  let c1_i32_22 : BitVec 32 := 1#32
  let arg4 : BitVec 32 := Scf.iv c0_i32_20 c1_i32_22 k0_t7
  let v43 : BitVec 32 := Scalar.muli c2_i32 arg4
  let c3_i32 : BitVec 32 := 3#32
  let v44 : BitVec 32 := Scalar.shrsi v43 c3_i32
  let c4_i32 : BitVec 32 := 4#32
  let v45 : BitVec 32 := Scalar.shli v44 c4_i32
  let c7_i32 : BitVec 32 := 7#32
  let v46 : BitVec 32 := Scalar.andi v43 c7_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off24 (k0_t7 : Fin k0_t7_loop.trips) : Fin 4 → Nat :=
  let c0_164 : Index := 0#32
  let c0_165 : Index := 0#32
  let c2_i32 : BitVec 32 := 2#32
  let c0_i32_20 : BitVec 32 := 0#32
  let c1_i32_22 : BitVec 32 := 1#32
  let arg4 : BitVec 32 := Scf.iv c0_i32_20 c1_i32_22 k0_t7
  let v43 : BitVec 32 := Scalar.muli c2_i32 arg4
  let c3_i32 : BitVec 32 := 3#32
  let v44 : BitVec 32 := Scalar.shrsi v43 c3_i32
  let c4_i32 : BitVec 32 := 4#32
  let v45 : BitVec 32 := Scalar.shli v44 c4_i32
  let c7_i32 : BitVec 32 := 7#32
  let v46 : BitVec 32 := Scalar.andi v43 c7_i32
  let v47 : BitVec 32 := Scalar.ori v45 v46
  let c8_i32_160 : BitVec 32 := 8#32
  let v48 : BitVec 32 := Scalar.addi v47 c8_i32_160
  let c64_i32_163 : BitVec 32 := 64#32
  let v53 : BitVec 32 := Scalar.muli v48 c64_i32_163
  let v54 : Index := Scalar.indexCast v53
  let c0_166 : Index := 0#32
  ![0, 0, v54.toNat, 0]
def k0_off25 (k0_t7 : Fin k0_t7_loop.trips) : Fin 4 → Nat :=
  let c0_184 : Index := 0#32
  let c0_185 : Index := 0#32
  let c2_i32_177 : BitVec 32 := 2#32
  let c0_i32_20 : BitVec 32 := 0#32
  let c1_i32_22 : BitVec 32 := 1#32
  let arg4 : BitVec 32 := Scf.iv c0_i32_20 c1_i32_22 k0_t7
  let v73 : BitVec 32 := Scalar.muli c2_i32_177 arg4
  let c1_i32_178 : BitVec 32 := 1#32
  let v74 : BitVec 32 := Scalar.addi v73 c1_i32_178
  let c3_i32_179 : BitVec 32 := 3#32
  let v75 : BitVec 32 := Scalar.shrsi v74 c3_i32_179
  let c4_i32_180 : BitVec 32 := 4#32
  let v76 : BitVec 32 := Scalar.shli v75 c4_i32_180
  let c7_i32_181 : BitVec 32 := 7#32
  let v77 : BitVec 32 := Scalar.andi v74 c7_i32_181
  let v78 : BitVec 32 := Scalar.ori v76 v77
  let c64_i32_183 : BitVec 32 := 64#32
  let v80 : BitVec 32 := Scalar.muli v78 c64_i32_183
  let v81 : Index := Scalar.indexCast v80
  let c0_186 : Index := 0#32
  ![0, 0, v81.toNat, 0]
def k0_off26 (k0_t7 : Fin k0_t7_loop.trips) : Fin 4 → Nat :=
  let c0_188 : Index := 0#32
  let c0_189 : Index := 0#32
  let c2_i32_177 : BitVec 32 := 2#32
  let c0_i32_20 : BitVec 32 := 0#32
  let c1_i32_22 : BitVec 32 := 1#32
  let arg4 : BitVec 32 := Scf.iv c0_i32_20 c1_i32_22 k0_t7
  let v73 : BitVec 32 := Scalar.muli c2_i32_177 arg4
  let c1_i32_178 : BitVec 32 := 1#32
  let v74 : BitVec 32 := Scalar.addi v73 c1_i32_178
  let c3_i32_179 : BitVec 32 := 3#32
  let v75 : BitVec 32 := Scalar.shrsi v74 c3_i32_179
  let c4_i32_180 : BitVec 32 := 4#32
  let v76 : BitVec 32 := Scalar.shli v75 c4_i32_180
  let c7_i32_181 : BitVec 32 := 7#32
  let v77 : BitVec 32 := Scalar.andi v74 c7_i32_181
  let v78 : BitVec 32 := Scalar.ori v76 v77
  let c8_i32_182 : BitVec 32 := 8#32
  let v79 : BitVec 32 := Scalar.addi v78 c8_i32_182
  let c64_i32_187 : BitVec 32 := 64#32
  let v84 : BitVec 32 := Scalar.muli v79 c64_i32_187
  let v85 : Index := Scalar.indexCast v84
  let c0_190 : Index := 0#32
  ![0, 0, v85.toNat, 0]
@[reducible] def k0_t8_loop : Scf.Loop 32 :=
  let c0_i32_24 : BitVec 32 := 0#32
  let c8_i32_25 : BitVec 32 := 8#32
  let v9 : BitVec 32 := Scalar.addi c0_i32_24 c8_i32_25
  let c1_i32_26 : BitVec 32 := 1#32
  ⟨c0_i32_24, v9, c1_i32_26⟩
def k0_off27 (k0_t8 : Fin k0_t8_loop.trips) : Fin 4 → Nat :=
  let c0 : Index := 0#32
  let c0_162 : Index := 0#32
  let c0_i32_24 : BitVec 32 := 0#32
  let c1_i32_26 : BitVec 32 := 1#32
  let arg4 : BitVec 32 := Scf.iv c0_i32_24 c1_i32_26 k0_t8
  let c1_i32_160 : BitVec 32 := 1#32
  let v43 : BitVec 32 := Scalar.shrsi arg4 c1_i32_160
  let c3_i32 : BitVec 32 := 3#32
  let v44 : BitVec 32 := Scalar.shli v43 c3_i32
  let c1_i32_161 : BitVec 32 := 1#32
  let v45 : BitVec 32 := Scalar.andi arg4 c1_i32_161
  let v46 : BitVec 32 := Scalar.ori v44 v45
  let c64_i32 : BitVec 32 := 64#32
  let v47 : BitVec 32 := Scalar.muli v46 c64_i32
  let v48 : Index := Scalar.indexCast v47
  let c0_163 : Index := 0#32
  ![0, 0, v48.toNat, 0]
def k0_off28 (k0_t8 : Fin k0_t8_loop.trips) (c2_i32 : BitVec 32) : Fin 4 → Nat :=
  let c0_165 : Index := 0#32
  let c0_166 : Index := 0#32
  let c0_i32_24 : BitVec 32 := 0#32
  let c1_i32_26 : BitVec 32 := 1#32
  let arg4 : BitVec 32 := Scf.iv c0_i32_24 c1_i32_26 k0_t8
  let c1_i32_160 : BitVec 32 := 1#32
  let v43 : BitVec 32 := Scalar.shrsi arg4 c1_i32_160
  let c3_i32 : BitVec 32 := 3#32
  let v44 : BitVec 32 := Scalar.shli v43 c3_i32
  let c1_i32_161 : BitVec 32 := 1#32
  let v45 : BitVec 32 := Scalar.andi arg4 c1_i32_161
  let v46 : BitVec 32 := Scalar.ori v44 v45
  let v51 : BitVec 32 := Scalar.addi v46 c2_i32
  let c64_i32_164 : BitVec 32 := 64#32
  let v52 : BitVec 32 := Scalar.muli v51 c64_i32_164
  let v53 : Index := Scalar.indexCast v52
  let c0_167 : Index := 0#32
  ![0, 0, v53.toNat, 0]
@[reducible] def k0_t9_loop : Scf.Loop 32 :=
  let c0_i32_28 : BitVec 32 := 0#32
  let c8_i32_29 : BitVec 32 := 8#32
  let v10 : BitVec 32 := Scalar.addi c0_i32_28 c8_i32_29
  let c1_i32_30 : BitVec 32 := 1#32
  ⟨c0_i32_28, v10, c1_i32_30⟩
def k0_off29 (k0_t9 : Fin k0_t9_loop.trips) : Fin 4 → Nat :=
  let c0 : Index := 0#32
  let c0_164 : Index := 0#32
  let c2_i32 : BitVec 32 := 2#32
  let c0_i32_28 : BitVec 32 := 0#32
  let c1_i32_30 : BitVec 32 := 1#32
  let arg4 : BitVec 32 := Scf.iv c0_i32_28 c1_i32_30 k0_t9
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off30 (k0_t9 : Fin k0_t9_loop.trips) : Fin 4 → Nat :=
  let c0_167 : Index := 0#32
  let c0_168 : Index := 0#32
  let c2_i32 : BitVec 32 := 2#32
  let c0_i32_28 : BitVec 32 := 0#32
  let c1_i32_30 : BitVec 32 := 1#32
  let arg4 : BitVec 32 := Scf.iv c0_i32_28 c1_i32_30 k0_t9
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off31 (k0_t9 : Fin k0_t9_loop.trips) : Fin 4 → Nat :=
  let c0_216 : Index := 0#32
  let c0_217 : Index := 0#32
  let c2_i32_209 : BitVec 32 := 2#32
  let c0_i32_28 : BitVec 32 := 0#32
  let c1_i32_30 : BitVec 32 := 1#32
  let arg4 : BitVec 32 := Scf.iv c0_i32_28 c1_i32_30 k0_t9
  let v239 : BitVec 32 := Scalar.muli c2_i32_209 arg4
  let c1_i32_210 : BitVec 32 := 1#32
  let v240 : BitVec 32 := Scalar.addi v239 c1_i32_210
  let c0_i32_211 : BitVec 32 := 0#32
  let v241 : BitVec 32 := Scalar.shrsi v240 c0_i32_211
  let c1_i32_212 : BitVec 32 := 1#32
  let v242 : BitVec 32 := Scalar.shli v241 c1_i32_212
  let c0_i32_213 : BitVec 32 := 0#32
  let v243 : BitVec 32 := Scalar.andi v240 c0_i32_213
  let v244 : BitVec 32 := Scalar.ori v242 v243
  let c64_i32_215 : BitVec 32 := 64#32
  let v246 : BitVec 32 := Scalar.muli v244 c64_i32_215
  let v247 : Index := Scalar.indexCast v246
  let c0_218 : Index := 0#32
  ![0, 0, v247.toNat, 0]
def k0_off32 (k0_t9 : Fin k0_t9_loop.trips) : Fin 4 → Nat :=
  let c0_220 : Index := 0#32
  let c0_221 : Index := 0#32
  let c2_i32_209 : BitVec 32 := 2#32
  let c0_i32_28 : BitVec 32 := 0#32
  let c1_i32_30 : BitVec 32 := 1#32
  let arg4 : BitVec 32 := Scf.iv c0_i32_28 c1_i32_30 k0_t9
  let v239 : BitVec 32 := Scalar.muli c2_i32_209 arg4
  let c1_i32_210 : BitVec 32 := 1#32
  let v240 : BitVec 32 := Scalar.addi v239 c1_i32_210
  let c0_i32_211 : BitVec 32 := 0#32
  let v241 : BitVec 32 := Scalar.shrsi v240 c0_i32_211
  let c1_i32_212 : BitVec 32 := 1#32
  let v242 : BitVec 32 := Scalar.shli v241 c1_i32_212
  let c0_i32_213 : BitVec 32 := 0#32
  let v243 : BitVec 32 := Scalar.andi v240 c0_i32_213
  let v244 : BitVec 32 := Scalar.ori v242 v243
  let c1_i32_214 : BitVec 32 := 1#32
  let v245 : BitVec 32 := Scalar.addi v244 c1_i32_214
  let c64_i32_219 : BitVec 32 := 64#32
  let v250 : BitVec 32 := Scalar.muli v245 c64_i32_219
  let v251 : Index := Scalar.indexCast v250
  let c0_222 : Index := 0#32
  ![0, 0, v251.toNat, 0]
@[reducible] def k0_t10_loop : Scf.Loop 32 :=
  let c0_i32_32 : BitVec 32 := 0#32
  let c8_i32_33 : BitVec 32 := 8#32
  let v11 : BitVec 32 := Scalar.addi c0_i32_32 c8_i32_33
  let c1_i32_34 : BitVec 32 := 1#32
  ⟨c0_i32_32, v11, c1_i32_34⟩
def k0_off33 (k0_t10 : Fin k0_t10_loop.trips) : Fin 4 → Nat :=
  let c0 : Index := 0#32
  let c0_161 : Index := 0#32
  let c2_i32 : BitVec 32 := 2#32
  let c0_i32_32 : BitVec 32 := 0#32
  let c1_i32_34 : BitVec 32 := 1#32
  let arg4 : BitVec 32 := Scf.iv c0_i32_32 c1_i32_34 k0_t10
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off34 (k0_t10 : Fin k0_t10_loop.trips) : Fin 4 → Nat :=
  let c0_164 : Index := 0#32
  let c0_165 : Index := 0#32
  let c2_i32 : BitVec 32 := 2#32
  let c0_i32_32 : BitVec 32 := 0#32
  let c1_i32_34 : BitVec 32 := 1#32
  let arg4 : BitVec 32 := Scf.iv c0_i32_32 c1_i32_34 k0_t10
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off35 (k0_t10 : Fin k0_t10_loop.trips) : Fin 4 → Nat :=
  let c0_184 : Index := 0#32
  let c0_185 : Index := 0#32
  let c2_i32_177 : BitVec 32 := 2#32
  let c0_i32_32 : BitVec 32 := 0#32
  let c1_i32_34 : BitVec 32 := 1#32
  let arg4 : BitVec 32 := Scf.iv c0_i32_32 c1_i32_34 k0_t10
  let v75 : BitVec 32 := Scalar.muli c2_i32_177 arg4
  let c1_i32_178 : BitVec 32 := 1#32
  let v76 : BitVec 32 := Scalar.addi v75 c1_i32_178
  let c4_i32_179 : BitVec 32 := 4#32
  let v77 : BitVec 32 := Scalar.shrsi v76 c4_i32_179
  let c5_i32_180 : BitVec 32 := 5#32
  let v78 : BitVec 32 := Scalar.shli v77 c5_i32_180
  let c15_i32_181 : BitVec 32 := 15#32
  let v79 : BitVec 32 := Scalar.andi v76 c15_i32_181
  let v80 : BitVec 32 := Scalar.ori v78 v79
  let c64_i32_183 : BitVec 32 := 64#32
  let v82 : BitVec 32 := Scalar.muli v80 c64_i32_183
  let v83 : Index := Scalar.indexCast v82
  let c0_186 : Index := 0#32
  ![0, 0, v83.toNat, 0]
def k0_off36 (k0_t10 : Fin k0_t10_loop.trips) : Fin 4 → Nat :=
  let c0_188 : Index := 0#32
  let c0_189 : Index := 0#32
  let c2_i32_177 : BitVec 32 := 2#32
  let c0_i32_32 : BitVec 32 := 0#32
  let c1_i32_34 : BitVec 32 := 1#32
  let arg4 : BitVec 32 := Scf.iv c0_i32_32 c1_i32_34 k0_t10
  let v75 : BitVec 32 := Scalar.muli c2_i32_177 arg4
  let c1_i32_178 : BitVec 32 := 1#32
  let v76 : BitVec 32 := Scalar.addi v75 c1_i32_178
  let c4_i32_179 : BitVec 32 := 4#32
  let v77 : BitVec 32 := Scalar.shrsi v76 c4_i32_179
  let c5_i32_180 : BitVec 32 := 5#32
  let v78 : BitVec 32 := Scalar.shli v77 c5_i32_180
  let c15_i32_181 : BitVec 32 := 15#32
  let v79 : BitVec 32 := Scalar.andi v76 c15_i32_181
  let v80 : BitVec 32 := Scalar.ori v78 v79
  let c16_i32_182 : BitVec 32 := 16#32
  let v81 : BitVec 32 := Scalar.addi v80 c16_i32_182
  let c64_i32_187 : BitVec 32 := 64#32
  let v86 : BitVec 32 := Scalar.muli v81 c64_i32_187
  let v87 : Index := Scalar.indexCast v86
  let c0_190 : Index := 0#32
  ![0, 0, v87.toNat, 0]
@[reducible] def k0_t11_loop : Scf.Loop 32 :=
  let c0_i32_36 : BitVec 32 := 0#32
  let c8_i32_37 : BitVec 32 := 8#32
  let v12 : BitVec 32 := Scalar.addi c0_i32_36 c8_i32_37
  let c1_i32_38 : BitVec 32 := 1#32
  ⟨c0_i32_36, v12, c1_i32_38⟩
def k0_off37 (k0_t11 : Fin k0_t11_loop.trips) : Fin 4 → Nat :=
  let c0 : Index := 0#32
  let c0_160 : Index := 0#32
  let c0_i32_36 : BitVec 32 := 0#32
  let c1_i32_38 : BitVec 32 := 1#32
  let arg4 : BitVec 32 := Scf.iv c0_i32_36 c1_i32_38 k0_t11
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off38 (k0_t11 : Fin k0_t11_loop.trips) (c4_i32_162 : BitVec 32) : Fin 4 → Nat :=
  let c0_164 : Index := 0#32
  let c0_165 : Index := 0#32
  let c0_i32_36 : BitVec 32 := 0#32
  let c1_i32_38 : BitVec 32 := 1#32
  let arg4 : BitVec 32 := Scf.iv c0_i32_36 c1_i32_38 k0_t11
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t12_loop : Scf.Loop 32 :=
  let c0_i32_40 : BitVec 32 := 0#32
  let c8_i32_41 : BitVec 32 := 8#32
  let v13 : BitVec 32 := Scalar.addi c0_i32_40 c8_i32_41
  let c1_i32_42 : BitVec 32 := 1#32
  ⟨c0_i32_40, v13, c1_i32_42⟩
def k0_off39 (k0_t12 : Fin k0_t12_loop.trips) : Fin 4 → Nat :=
  let c0 : Index := 0#32
  let c0_164 : Index := 0#32
  let c2_i32 : BitVec 32 := 2#32
  let c0_i32_40 : BitVec 32 := 0#32
  let c1_i32_42 : BitVec 32 := 1#32
  let arg4 : BitVec 32 := Scf.iv c0_i32_40 c1_i32_42 k0_t12
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off40 (k0_t12 : Fin k0_t12_loop.trips) : Fin 4 → Nat :=
  let c0_167 : Index := 0#32
  let c0_168 : Index := 0#32
  let c2_i32 : BitVec 32 := 2#32
  let c0_i32_40 : BitVec 32 := 0#32
  let c1_i32_42 : BitVec 32 := 1#32
  let arg4 : BitVec 32 := Scf.iv c0_i32_40 c1_i32_42 k0_t12
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off41 (k0_t12 : Fin k0_t12_loop.trips) : Fin 4 → Nat :=
  let c0_187 : Index := 0#32
  let c0_188 : Index := 0#32
  let c2_i32_180 : BitVec 32 := 2#32
  let c0_i32_40 : BitVec 32 := 0#32
  let c1_i32_42 : BitVec 32 := 1#32
  let arg4 : BitVec 32 := Scf.iv c0_i32_40 c1_i32_42 k0_t12
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c64_i32_186 : BitVec 32 := 64#32
  let v82 : BitVec 32 := Scalar.muli v80 c64_i32_186
  let v83 : Index := Scalar.indexCast v82
  let c0_189 : Index := 0#32
  ![0, 0, v83.toNat, 0]
def k0_off42 (k0_t12 : Fin k0_t12_loop.trips) : Fin 4 → Nat :=
  let c0_191 : Index := 0#32
  let c0_192 : Index := 0#32
  let c2_i32_180 : BitVec 32 := 2#32
  let c0_i32_40 : BitVec 32 := 0#32
  let c1_i32_42 : BitVec 32 := 1#32
  let arg4 : BitVec 32 := Scf.iv c0_i32_40 c1_i32_42 k0_t12
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c2_i32_185 : BitVec 32 := 2#32
  let v81 : BitVec 32 := Scalar.addi v80 c2_i32_185
  let c64_i32_190 : BitVec 32 := 64#32
  let v86 : BitVec 32 := Scalar.muli v81 c64_i32_190
  let v87 : Index := Scalar.indexCast v86
  let c0_193 : Index := 0#32
  ![0, 0, v87.toNat, 0]
@[reducible] def k0_t13_loop : Scf.Loop 32 :=
  let c0_i32_44 : BitVec 32 := 0#32
  let c8_i32_45 : BitVec 32 := 8#32
  let v14 : BitVec 32 := Scalar.addi c0_i32_44 c8_i32_45
  let c1_i32_46 : BitVec 32 := 1#32
  ⟨c0_i32_44, v14, c1_i32_46⟩
def k0_off43 (k0_t13 : Fin k0_t13_loop.trips) : Fin 4 → Nat :=
  let c0 : Index := 0#32
  let c0_164 : Index := 0#32
  let c2_i32 : BitVec 32 := 2#32
  let c0_i32_44 : BitVec 32 := 0#32
  let c1_i32_46 : BitVec 32 := 1#32
  let arg4 : BitVec 32 := Scf.iv c0_i32_44 c1_i32_46 k0_t13
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off44 (k0_t13 : Fin k0_t13_loop.trips) : Fin 4 → Nat :=
  let c0_167 : Index := 0#32
  let c0_168 : Index := 0#32
  let c2_i32 : BitVec 32 := 2#32
  let c0_i32_44 : BitVec 32 := 0#32
  let c1_i32_46 : BitVec 32 := 1#32
  let arg4 : BitVec 32 := Scf.iv c0_i32_44 c1_i32_46 k0_t13
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off45 (k0_t13 : Fin k0_t13_loop.trips) : Fin 4 → Nat :=
  let c0_216 : Index := 0#32
  let c0_217 : Index := 0#32
  let c2_i32_209 : BitVec 32 := 2#32
  let c0_i32_44 : BitVec 32 := 0#32
  let c1_i32_46 : BitVec 32 := 1#32
  let arg4 : BitVec 32 := Scf.iv c0_i32_44 c1_i32_46 k0_t13
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c64_i32_215 : BitVec 32 := 64#32
  let v258 : BitVec 32 := Scalar.muli v256 c64_i32_215
  let v259 : Index := Scalar.indexCast v258
  let c0_218 : Index := 0#32
  ![0, 0, v259.toNat, 0]
def k0_off46 (k0_t13 : Fin k0_t13_loop.trips) : Fin 4 → Nat :=
  let c0_220 : Index := 0#32
  let c0_221 : Index := 0#32
  let c2_i32_209 : BitVec 32 := 2#32
  let c0_i32_44 : BitVec 32 := 0#32
  let c1_i32_46 : BitVec 32 := 1#32
  let arg4 : BitVec 32 := Scf.iv c0_i32_44 c1_i32_46 k0_t13
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c1_i32_214 : BitVec 32 := 1#32
  let v257 : BitVec 32 := Scalar.addi v256 c1_i32_214
  let c64_i32_219 : BitVec 32 := 64#32
  let v262 : BitVec 32 := Scalar.muli v257 c64_i32_219
  let v263 : Index := Scalar.indexCast v262
  let c0_222 : Index := 0#32
  ![0, 0, v263.toNat, 0]
@[reducible] def k0_t14_loop : Scf.Loop 32 :=
  let c0_i32_48 : BitVec 32 := 0#32
  let c8_i32_49 : BitVec 32 := 8#32
  let v15 : BitVec 32 := Scalar.addi c0_i32_48 c8_i32_49
  let c1_i32_50 : BitVec 32 := 1#32
  ⟨c0_i32_48, v15, c1_i32_50⟩
def k0_off47 (k0_t14 : Fin k0_t14_loop.trips) : Fin 4 → Nat :=
  let c0 : Index := 0#32
  let c0_161 : Index := 0#32
  let c2_i32 : BitVec 32 := 2#32
  let c0_i32_48 : BitVec 32 := 0#32
  let c1_i32_50 : BitVec 32 := 1#32
  let arg4 : BitVec 32 := Scf.iv c0_i32_48 c1_i32_50 k0_t14
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off48 (k0_t14 : Fin k0_t14_loop.trips) : Fin 4 → Nat :=
  let c0_164 : Index := 0#32
  let c0_165 : Index := 0#32
  let c2_i32 : BitVec 32 := 2#32
  let c0_i32_48 : BitVec 32 := 0#32
  let c1_i32_50 : BitVec 32 := 1#32
  let arg4 : BitVec 32 := Scf.iv c0_i32_48 c1_i32_50 k0_t14
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off49 (k0_t14 : Fin k0_t14_loop.trips) : Fin 4 → Nat :=
  let c0_196 : Index := 0#32
  let c0_197 : Index := 0#32
  let c2_i32_189 : BitVec 32 := 2#32
  let c0_i32_48 : BitVec 32 := 0#32
  let c1_i32_50 : BitVec 32 := 1#32
  let arg4 : BitVec 32 := Scf.iv c0_i32_48 c1_i32_50 k0_t14
  let v107 : BitVec 32 := Scalar.muli c2_i32_189 arg4
  let c1_i32_190 : BitVec 32 := 1#32
  let v108 : BitVec 32 := Scalar.addi v107 c1_i32_190
  let c4_i32_191 : BitVec 32 := 4#32
  let v109 : BitVec 32 := Scalar.shrsi v108 c4_i32_191
  let c5_i32_192 : BitVec 32 := 5#32
  let v110 : BitVec 32 := Scalar.shli v109 c5_i32_192
  let c15_i32_193 : BitVec 32 := 15#32
  let v111 : BitVec 32 := Scalar.andi v108 c15_i32_193
  let v112 : BitVec 32 := Scalar.ori v110 v111
  let c64_i32_195 : BitVec 32 := 64#32
  let v114 : BitVec 32 := Scalar.muli v112 c64_i32_195
  let v115 : Index := Scalar.indexCast v114
  let c0_198 : Index := 0#32
  ![0, 0, v115.toNat, 0]
def k0_off50 (k0_t14 : Fin k0_t14_loop.trips) : Fin 4 → Nat :=
  let c0_200 : Index := 0#32
  let c0_201 : Index := 0#32
  let c2_i32_189 : BitVec 32 := 2#32
  let c0_i32_48 : BitVec 32 := 0#32
  let c1_i32_50 : BitVec 32 := 1#32
  let arg4 : BitVec 32 := Scf.iv c0_i32_48 c1_i32_50 k0_t14
  let v107 : BitVec 32 := Scalar.muli c2_i32_189 arg4
  let c1_i32_190 : BitVec 32 := 1#32
  let v108 : BitVec 32 := Scalar.addi v107 c1_i32_190
  let c4_i32_191 : BitVec 32 := 4#32
  let v109 : BitVec 32 := Scalar.shrsi v108 c4_i32_191
  let c5_i32_192 : BitVec 32 := 5#32
  let v110 : BitVec 32 := Scalar.shli v109 c5_i32_192
  let c15_i32_193 : BitVec 32 := 15#32
  let v111 : BitVec 32 := Scalar.andi v108 c15_i32_193
  let v112 : BitVec 32 := Scalar.ori v110 v111
  let c16_i32_194 : BitVec 32 := 16#32
  let v113 : BitVec 32 := Scalar.addi v112 c16_i32_194
  let c64_i32_199 : BitVec 32 := 64#32
  let v118 : BitVec 32 := Scalar.muli v113 c64_i32_199
  let v119 : Index := Scalar.indexCast v118
  let c0_202 : Index := 0#32
  ![0, 0, v119.toNat, 0]
@[reducible] def k0_t15_loop : Scf.Loop 32 :=
  let c0_i32_52 : BitVec 32 := 0#32
  let c8_i32_53 : BitVec 32 := 8#32
  let v16 : BitVec 32 := Scalar.addi c0_i32_52 c8_i32_53
  let c1_i32_54 : BitVec 32 := 1#32
  ⟨c0_i32_52, v16, c1_i32_54⟩
def k0_off51 (k0_t15 : Fin k0_t15_loop.trips) : Fin 4 → Nat :=
  let c0 : Index := 0#32
  let c0_160 : Index := 0#32
  let c0_i32_52 : BitVec 32 := 0#32
  let c1_i32_54 : BitVec 32 := 1#32
  let arg4 : BitVec 32 := Scf.iv c0_i32_52 c1_i32_54 k0_t15
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off52 (k0_t15 : Fin k0_t15_loop.trips) (c4_i32_162 : BitVec 32) : Fin 4 → Nat :=
  let c0_164 : Index := 0#32
  let c0_165 : Index := 0#32
  let c0_i32_52 : BitVec 32 := 0#32
  let c1_i32_54 : BitVec 32 := 1#32
  let arg4 : BitVec 32 := Scf.iv c0_i32_52 c1_i32_54 k0_t15
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t16_loop : Scf.Loop 32 :=
  let c0_i32_56 : BitVec 32 := 0#32
  let c8_i32_57 : BitVec 32 := 8#32
  let v17 : BitVec 32 := Scalar.addi c0_i32_56 c8_i32_57
  let c1_i32_58 : BitVec 32 := 1#32
  ⟨c0_i32_56, v17, c1_i32_58⟩
def k0_off53 (k0_t16 : Fin k0_t16_loop.trips) : Fin 4 → Nat :=
  let c0 : Index := 0#32
  let c0_164 : Index := 0#32
  let c2_i32 : BitVec 32 := 2#32
  let c0_i32_56 : BitVec 32 := 0#32
  let c1_i32_58 : BitVec 32 := 1#32
  let arg4 : BitVec 32 := Scf.iv c0_i32_56 c1_i32_58 k0_t16
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off54 (k0_t16 : Fin k0_t16_loop.trips) : Fin 4 → Nat :=
  let c0_167 : Index := 0#32
  let c0_168 : Index := 0#32
  let c2_i32 : BitVec 32 := 2#32
  let c0_i32_56 : BitVec 32 := 0#32
  let c1_i32_58 : BitVec 32 := 1#32
  let arg4 : BitVec 32 := Scf.iv c0_i32_56 c1_i32_58 k0_t16
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off55 (k0_t16 : Fin k0_t16_loop.trips) : Fin 4 → Nat :=
  let c0_187 : Index := 0#32
  let c0_188 : Index := 0#32
  let c2_i32_180 : BitVec 32 := 2#32
  let c0_i32_56 : BitVec 32 := 0#32
  let c1_i32_58 : BitVec 32 := 1#32
  let arg4 : BitVec 32 := Scf.iv c0_i32_56 c1_i32_58 k0_t16
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c64_i32_186 : BitVec 32 := 64#32
  let v82 : BitVec 32 := Scalar.muli v80 c64_i32_186
  let v83 : Index := Scalar.indexCast v82
  let c0_189 : Index := 0#32
  ![0, 0, v83.toNat, 0]
def k0_off56 (k0_t16 : Fin k0_t16_loop.trips) : Fin 4 → Nat :=
  let c0_191 : Index := 0#32
  let c0_192 : Index := 0#32
  let c2_i32_180 : BitVec 32 := 2#32
  let c0_i32_56 : BitVec 32 := 0#32
  let c1_i32_58 : BitVec 32 := 1#32
  let arg4 : BitVec 32 := Scf.iv c0_i32_56 c1_i32_58 k0_t16
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c2_i32_185 : BitVec 32 := 2#32
  let v81 : BitVec 32 := Scalar.addi v80 c2_i32_185
  let c64_i32_190 : BitVec 32 := 64#32
  let v86 : BitVec 32 := Scalar.muli v81 c64_i32_190
  let v87 : Index := Scalar.indexCast v86
  let c0_193 : Index := 0#32
  ![0, 0, v87.toNat, 0]
@[reducible] def k0_t17_loop : Scf.Loop 32 :=
  let c0_i32_60 : BitVec 32 := 0#32
  let c8_i32_61 : BitVec 32 := 8#32
  let v18 : BitVec 32 := Scalar.addi c0_i32_60 c8_i32_61
  let c1_i32_62 : BitVec 32 := 1#32
  ⟨c0_i32_60, v18, c1_i32_62⟩
def k0_off57 (k0_t17 : Fin k0_t17_loop.trips) : Fin 4 → Nat :=
  let c0 : Index := 0#32
  let c0_164 : Index := 0#32
  let c2_i32 : BitVec 32 := 2#32
  let c0_i32_60 : BitVec 32 := 0#32
  let c1_i32_62 : BitVec 32 := 1#32
  let arg4 : BitVec 32 := Scf.iv c0_i32_60 c1_i32_62 k0_t17
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off58 (k0_t17 : Fin k0_t17_loop.trips) : Fin 4 → Nat :=
  let c0_167 : Index := 0#32
  let c0_168 : Index := 0#32
  let c2_i32 : BitVec 32 := 2#32
  let c0_i32_60 : BitVec 32 := 0#32
  let c1_i32_62 : BitVec 32 := 1#32
  let arg4 : BitVec 32 := Scf.iv c0_i32_60 c1_i32_62 k0_t17
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off59 (k0_t17 : Fin k0_t17_loop.trips) : Fin 4 → Nat :=
  let c0_216 : Index := 0#32
  let c0_217 : Index := 0#32
  let c2_i32_209 : BitVec 32 := 2#32
  let c0_i32_60 : BitVec 32 := 0#32
  let c1_i32_62 : BitVec 32 := 1#32
  let arg4 : BitVec 32 := Scf.iv c0_i32_60 c1_i32_62 k0_t17
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c64_i32_215 : BitVec 32 := 64#32
  let v258 : BitVec 32 := Scalar.muli v256 c64_i32_215
  let v259 : Index := Scalar.indexCast v258
  let c0_218 : Index := 0#32
  ![0, 0, v259.toNat, 0]
def k0_off60 (k0_t17 : Fin k0_t17_loop.trips) : Fin 4 → Nat :=
  let c0_220 : Index := 0#32
  let c0_221 : Index := 0#32
  let c2_i32_209 : BitVec 32 := 2#32
  let c0_i32_60 : BitVec 32 := 0#32
  let c1_i32_62 : BitVec 32 := 1#32
  let arg4 : BitVec 32 := Scf.iv c0_i32_60 c1_i32_62 k0_t17
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c1_i32_214 : BitVec 32 := 1#32
  let v257 : BitVec 32 := Scalar.addi v256 c1_i32_214
  let c64_i32_219 : BitVec 32 := 64#32
  let v262 : BitVec 32 := Scalar.muli v257 c64_i32_219
  let v263 : Index := Scalar.indexCast v262
  let c0_222 : Index := 0#32
  ![0, 0, v263.toNat, 0]
@[reducible] def k0_t18_loop : Scf.Loop 32 :=
  let c0_i32_64 : BitVec 32 := 0#32
  let c8_i32_65 : BitVec 32 := 8#32
  let v19 : BitVec 32 := Scalar.addi c0_i32_64 c8_i32_65
  let c1_i32_66 : BitVec 32 := 1#32
  ⟨c0_i32_64, v19, c1_i32_66⟩
def k0_off61 (k0_t18 : Fin k0_t18_loop.trips) : Fin 4 → Nat :=
  let c0 : Index := 0#32
  let c0_161 : Index := 0#32
  let c2_i32 : BitVec 32 := 2#32
  let c0_i32_64 : BitVec 32 := 0#32
  let c1_i32_66 : BitVec 32 := 1#32
  let arg4 : BitVec 32 := Scf.iv c0_i32_64 c1_i32_66 k0_t18
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off62 (k0_t18 : Fin k0_t18_loop.trips) : Fin 4 → Nat :=
  let c0_164 : Index := 0#32
  let c0_165 : Index := 0#32
  let c2_i32 : BitVec 32 := 2#32
  let c0_i32_64 : BitVec 32 := 0#32
  let c1_i32_66 : BitVec 32 := 1#32
  let arg4 : BitVec 32 := Scf.iv c0_i32_64 c1_i32_66 k0_t18
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off63 (k0_t18 : Fin k0_t18_loop.trips) : Fin 4 → Nat :=
  let c0_205 : Index := 0#32
  let c0_206 : Index := 0#32
  let c2_i32_198 : BitVec 32 := 2#32
  let c0_i32_64 : BitVec 32 := 0#32
  let c1_i32_66 : BitVec 32 := 1#32
  let arg4 : BitVec 32 := Scf.iv c0_i32_64 c1_i32_66 k0_t18
  let v131 : BitVec 32 := Scalar.muli c2_i32_198 arg4
  let c1_i32_199 : BitVec 32 := 1#32
  let v132 : BitVec 32 := Scalar.addi v131 c1_i32_199
  let c4_i32_200 : BitVec 32 := 4#32
  let v133 : BitVec 32 := Scalar.shrsi v132 c4_i32_200
  let c5_i32_201 : BitVec 32 := 5#32
  let v134 : BitVec 32 := Scalar.shli v133 c5_i32_201
  let c15_i32_202 : BitVec 32 := 15#32
  let v135 : BitVec 32 := Scalar.andi v132 c15_i32_202
  let v136 : BitVec 32 := Scalar.ori v134 v135
  let c64_i32_204 : BitVec 32 := 64#32
  let v138 : BitVec 32 := Scalar.muli v136 c64_i32_204
  let v139 : Index := Scalar.indexCast v138
  let c0_207 : Index := 0#32
  ![0, 0, v139.toNat, 0]
def k0_off64 (k0_t18 : Fin k0_t18_loop.trips) : Fin 4 → Nat :=
  let c0_209 : Index := 0#32
  let c0_210 : Index := 0#32
  let c2_i32_198 : BitVec 32 := 2#32
  let c0_i32_64 : BitVec 32 := 0#32
  let c1_i32_66 : BitVec 32 := 1#32
  let arg4 : BitVec 32 := Scf.iv c0_i32_64 c1_i32_66 k0_t18
  let v131 : BitVec 32 := Scalar.muli c2_i32_198 arg4
  let c1_i32_199 : BitVec 32 := 1#32
  let v132 : BitVec 32 := Scalar.addi v131 c1_i32_199
  let c4_i32_200 : BitVec 32 := 4#32
  let v133 : BitVec 32 := Scalar.shrsi v132 c4_i32_200
  let c5_i32_201 : BitVec 32 := 5#32
  let v134 : BitVec 32 := Scalar.shli v133 c5_i32_201
  let c15_i32_202 : BitVec 32 := 15#32
  let v135 : BitVec 32 := Scalar.andi v132 c15_i32_202
  let v136 : BitVec 32 := Scalar.ori v134 v135
  let c16_i32_203 : BitVec 32 := 16#32
  let v137 : BitVec 32 := Scalar.addi v136 c16_i32_203
  let c64_i32_208 : BitVec 32 := 64#32
  let v142 : BitVec 32 := Scalar.muli v137 c64_i32_208
  let v143 : Index := Scalar.indexCast v142
  let c0_211 : Index := 0#32
  ![0, 0, v143.toNat, 0]
@[reducible] def k0_t19_loop : Scf.Loop 32 :=
  let c0_i32_68 : BitVec 32 := 0#32
  let c8_i32_69 : BitVec 32 := 8#32
  let v20 : BitVec 32 := Scalar.addi c0_i32_68 c8_i32_69
  let c1_i32_70 : BitVec 32 := 1#32
  ⟨c0_i32_68, v20, c1_i32_70⟩
def k0_off65 (k0_t19 : Fin k0_t19_loop.trips) : Fin 4 → Nat :=
  let c0 : Index := 0#32
  let c0_160 : Index := 0#32
  let c0_i32_68 : BitVec 32 := 0#32
  let c1_i32_70 : BitVec 32 := 1#32
  let arg4 : BitVec 32 := Scf.iv c0_i32_68 c1_i32_70 k0_t19
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off66 (k0_t19 : Fin k0_t19_loop.trips) (c4_i32_162 : BitVec 32) : Fin 4 → Nat :=
  let c0_164 : Index := 0#32
  let c0_165 : Index := 0#32
  let c0_i32_68 : BitVec 32 := 0#32
  let c1_i32_70 : BitVec 32 := 1#32
  let arg4 : BitVec 32 := Scf.iv c0_i32_68 c1_i32_70 k0_t19
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t20_loop : Scf.Loop 32 :=
  let c0_i32_72 : BitVec 32 := 0#32
  let c8_i32_73 : BitVec 32 := 8#32
  let v21 : BitVec 32 := Scalar.addi c0_i32_72 c8_i32_73
  let c1_i32_74 : BitVec 32 := 1#32
  ⟨c0_i32_72, v21, c1_i32_74⟩
def k0_off67 (k0_t20 : Fin k0_t20_loop.trips) : Fin 4 → Nat :=
  let c0 : Index := 0#32
  let c0_164 : Index := 0#32
  let c2_i32 : BitVec 32 := 2#32
  let c0_i32_72 : BitVec 32 := 0#32
  let c1_i32_74 : BitVec 32 := 1#32
  let arg4 : BitVec 32 := Scf.iv c0_i32_72 c1_i32_74 k0_t20
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off68 (k0_t20 : Fin k0_t20_loop.trips) : Fin 4 → Nat :=
  let c0_167 : Index := 0#32
  let c0_168 : Index := 0#32
  let c2_i32 : BitVec 32 := 2#32
  let c0_i32_72 : BitVec 32 := 0#32
  let c1_i32_74 : BitVec 32 := 1#32
  let arg4 : BitVec 32 := Scf.iv c0_i32_72 c1_i32_74 k0_t20
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off69 (k0_t20 : Fin k0_t20_loop.trips) : Fin 4 → Nat :=
  let c0_186 : Index := 0#32
  let c0_187 : Index := 0#32
  let c2_i32_179 : BitVec 32 := 2#32
  let c0_i32_72 : BitVec 32 := 0#32
  let c1_i32_74 : BitVec 32 := 1#32
  let arg4 : BitVec 32 := Scf.iv c0_i32_72 c1_i32_74 k0_t20
  let v75 : BitVec 32 := Scalar.muli c2_i32_179 arg4
  let c1_i32_180 : BitVec 32 := 1#32
  let v76 : BitVec 32 := Scalar.addi v75 c1_i32_180
  let c1_i32_181 : BitVec 32 := 1#32
  let v77 : BitVec 32 := Scalar.shrsi v76 c1_i32_181
  let c2_i32_182 : BitVec 32 := 2#32
  let v78 : BitVec 32 := Scalar.shli v77 c2_i32_182
  let c1_i32_183 : BitVec 32 := 1#32
  let v79 : BitVec 32 := Scalar.andi v76 c1_i32_183
  let v80 : BitVec 32 := Scalar.ori v78 v79
  let c64_i32_185 : BitVec 32 := 64#32
  let v82 : BitVec 32 := Scalar.muli v80 c64_i32_185
  let v83 : Index := Scalar.indexCast v82
  let c0_188 : Index := 0#32
  ![0, 0, v83.toNat, 0]
def k0_off70 (k0_t20 : Fin k0_t20_loop.trips) : Fin 4 → Nat :=
  let c0_190 : Index := 0#32
  let c0_191 : Index := 0#32
  let c2_i32_179 : BitVec 32 := 2#32
  let c0_i32_72 : BitVec 32 := 0#32
  let c1_i32_74 : BitVec 32 := 1#32
  let arg4 : BitVec 32 := Scf.iv c0_i32_72 c1_i32_74 k0_t20
  let v75 : BitVec 32 := Scalar.muli c2_i32_179 arg4
  let c1_i32_180 : BitVec 32 := 1#32
  let v76 : BitVec 32 := Scalar.addi v75 c1_i32_180
  let c1_i32_181 : BitVec 32 := 1#32
  let v77 : BitVec 32 := Scalar.shrsi v76 c1_i32_181
  let c2_i32_182 : BitVec 32 := 2#32
  let v78 : BitVec 32 := Scalar.shli v77 c2_i32_182
  let c1_i32_183 : BitVec 32 := 1#32
  let v79 : BitVec 32 := Scalar.andi v76 c1_i32_183
  let v80 : BitVec 32 := Scalar.ori v78 v79
  let c2_i32_184 : BitVec 32 := 2#32
  let v81 : BitVec 32 := Scalar.addi v80 c2_i32_184
  let c64_i32_189 : BitVec 32 := 64#32
  let v86 : BitVec 32 := Scalar.muli v81 c64_i32_189
  let v87 : Index := Scalar.indexCast v86
  let c0_192 : Index := 0#32
  ![0, 0, v87.toNat, 0]
@[reducible] def k0_t21_loop : Scf.Loop 32 :=
  let c0_i32_76 : BitVec 32 := 0#32
  let c8_i32_77 : BitVec 32 := 8#32
  let v22 : BitVec 32 := Scalar.addi c0_i32_76 c8_i32_77
  let c1_i32_78 : BitVec 32 := 1#32
  ⟨c0_i32_76, v22, c1_i32_78⟩
def k0_off71 (k0_t21 : Fin k0_t21_loop.trips) : Fin 4 → Nat :=
  let c0 : Index := 0#32
  let c0_164 : Index := 0#32
  let c2_i32 : BitVec 32 := 2#32
  let c0_i32_76 : BitVec 32 := 0#32
  let c1_i32_78 : BitVec 32 := 1#32
  let arg4 : BitVec 32 := Scf.iv c0_i32_76 c1_i32_78 k0_t21
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off72 (k0_t21 : Fin k0_t21_loop.trips) : Fin 4 → Nat :=
  let c0_167 : Index := 0#32
  let c0_168 : Index := 0#32
  let c2_i32 : BitVec 32 := 2#32
  let c0_i32_76 : BitVec 32 := 0#32
  let c1_i32_78 : BitVec 32 := 1#32
  let arg4 : BitVec 32 := Scf.iv c0_i32_76 c1_i32_78 k0_t21
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off73 (k0_t21 : Fin k0_t21_loop.trips) : Fin 4 → Nat :=
  let c0_216 : Index := 0#32
  let c0_217 : Index := 0#32
  let c2_i32_209 : BitVec 32 := 2#32
  let c0_i32_76 : BitVec 32 := 0#32
  let c1_i32_78 : BitVec 32 := 1#32
  let arg4 : BitVec 32 := Scf.iv c0_i32_76 c1_i32_78 k0_t21
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c64_i32_215 : BitVec 32 := 64#32
  let v258 : BitVec 32 := Scalar.muli v256 c64_i32_215
  let v259 : Index := Scalar.indexCast v258
  let c0_218 : Index := 0#32
  ![0, 0, v259.toNat, 0]
def k0_off74 (k0_t21 : Fin k0_t21_loop.trips) : Fin 4 → Nat :=
  let c0_220 : Index := 0#32
  let c0_221 : Index := 0#32
  let c2_i32_209 : BitVec 32 := 2#32
  let c0_i32_76 : BitVec 32 := 0#32
  let c1_i32_78 : BitVec 32 := 1#32
  let arg4 : BitVec 32 := Scf.iv c0_i32_76 c1_i32_78 k0_t21
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c1_i32_214 : BitVec 32 := 1#32
  let v257 : BitVec 32 := Scalar.addi v256 c1_i32_214
  let c64_i32_219 : BitVec 32 := 64#32
  let v262 : BitVec 32 := Scalar.muli v257 c64_i32_219
  let v263 : Index := Scalar.indexCast v262
  let c0_222 : Index := 0#32
  ![0, 0, v263.toNat, 0]
@[reducible] def k0_t22_loop : Scf.Loop 32 :=
  let c0_i32_80 : BitVec 32 := 0#32
  let c8_i32_81 : BitVec 32 := 8#32
  let v23 : BitVec 32 := Scalar.addi c0_i32_80 c8_i32_81
  let c1_i32_82 : BitVec 32 := 1#32
  ⟨c0_i32_80, v23, c1_i32_82⟩
def k0_off75 (k0_t22 : Fin k0_t22_loop.trips) : Fin 4 → Nat :=
  let c0 : Index := 0#32
  let c0_161 : Index := 0#32
  let c2_i32 : BitVec 32 := 2#32
  let c0_i32_80 : BitVec 32 := 0#32
  let c1_i32_82 : BitVec 32 := 1#32
  let arg4 : BitVec 32 := Scf.iv c0_i32_80 c1_i32_82 k0_t22
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off76 (k0_t22 : Fin k0_t22_loop.trips) : Fin 4 → Nat :=
  let c0_164 : Index := 0#32
  let c0_165 : Index := 0#32
  let c2_i32 : BitVec 32 := 2#32
  let c0_i32_80 : BitVec 32 := 0#32
  let c1_i32_82 : BitVec 32 := 1#32
  let arg4 : BitVec 32 := Scf.iv c0_i32_80 c1_i32_82 k0_t22
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off77 (k0_t22 : Fin k0_t22_loop.trips) : Fin 4 → Nat :=
  let c0_214 : Index := 0#32
  let c0_215 : Index := 0#32
  let c2_i32_207 : BitVec 32 := 2#32
  let c0_i32_80 : BitVec 32 := 0#32
  let c1_i32_82 : BitVec 32 := 1#32
  let arg4 : BitVec 32 := Scf.iv c0_i32_80 c1_i32_82 k0_t22
  let v155 : BitVec 32 := Scalar.muli c2_i32_207 arg4
  let c1_i32_208 : BitVec 32 := 1#32
  let v156 : BitVec 32 := Scalar.addi v155 c1_i32_208
  let c4_i32_209 : BitVec 32 := 4#32
  let v157 : BitVec 32 := Scalar.shrsi v156 c4_i32_209
  let c5_i32_210 : BitVec 32 := 5#32
  let v158 : BitVec 32 := Scalar.shli v157 c5_i32_210
  let c15_i32_211 : BitVec 32 := 15#32
  let v159 : BitVec 32 := Scalar.andi v156 c15_i32_211
  let v160 : BitVec 32 := Scalar.ori v158 v159
  let c64_i32_213 : BitVec 32 := 64#32
  let v162 : BitVec 32 := Scalar.muli v160 c64_i32_213
  let v163 : Index := Scalar.indexCast v162
  let c0_216 : Index := 0#32
  ![0, 0, v163.toNat, 0]
def k0_off78 (k0_t22 : Fin k0_t22_loop.trips) : Fin 4 → Nat :=
  let c0_218 : Index := 0#32
  let c0_219 : Index := 0#32
  let c2_i32_207 : BitVec 32 := 2#32
  let c0_i32_80 : BitVec 32 := 0#32
  let c1_i32_82 : BitVec 32 := 1#32
  let arg4 : BitVec 32 := Scf.iv c0_i32_80 c1_i32_82 k0_t22
  let v155 : BitVec 32 := Scalar.muli c2_i32_207 arg4
  let c1_i32_208 : BitVec 32 := 1#32
  let v156 : BitVec 32 := Scalar.addi v155 c1_i32_208
  let c4_i32_209 : BitVec 32 := 4#32
  let v157 : BitVec 32 := Scalar.shrsi v156 c4_i32_209
  let c5_i32_210 : BitVec 32 := 5#32
  let v158 : BitVec 32 := Scalar.shli v157 c5_i32_210
  let c15_i32_211 : BitVec 32 := 15#32
  let v159 : BitVec 32 := Scalar.andi v156 c15_i32_211
  let v160 : BitVec 32 := Scalar.ori v158 v159
  let c16_i32_212 : BitVec 32 := 16#32
  let v161 : BitVec 32 := Scalar.addi v160 c16_i32_212
  let c64_i32_217 : BitVec 32 := 64#32
  let v166 : BitVec 32 := Scalar.muli v161 c64_i32_217
  let v167 : Index := Scalar.indexCast v166
  let c0_220 : Index := 0#32
  ![0, 0, v167.toNat, 0]
@[reducible] def k0_t23_loop : Scf.Loop 32 :=
  let c0_i32_84 : BitVec 32 := 0#32
  let c8_i32_85 : BitVec 32 := 8#32
  let v24 : BitVec 32 := Scalar.addi c0_i32_84 c8_i32_85
  let c1_i32_86 : BitVec 32 := 1#32
  ⟨c0_i32_84, v24, c1_i32_86⟩
def k0_off79 (k0_t23 : Fin k0_t23_loop.trips) : Fin 4 → Nat :=
  let c0 : Index := 0#32
  let c0_160 : Index := 0#32
  let c0_i32_84 : BitVec 32 := 0#32
  let c1_i32_86 : BitVec 32 := 1#32
  let arg4 : BitVec 32 := Scf.iv c0_i32_84 c1_i32_86 k0_t23
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off80 (k0_t23 : Fin k0_t23_loop.trips) (c4_i32_162 : BitVec 32) : Fin 4 → Nat :=
  let c0_164 : Index := 0#32
  let c0_165 : Index := 0#32
  let c0_i32_84 : BitVec 32 := 0#32
  let c1_i32_86 : BitVec 32 := 1#32
  let arg4 : BitVec 32 := Scf.iv c0_i32_84 c1_i32_86 k0_t23
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t24_loop : Scf.Loop 32 :=
  let c0_i32_88 : BitVec 32 := 0#32
  let c8_i32_89 : BitVec 32 := 8#32
  let v25 : BitVec 32 := Scalar.addi c0_i32_88 c8_i32_89
  let c1_i32_90 : BitVec 32 := 1#32
  ⟨c0_i32_88, v25, c1_i32_90⟩
def k0_off81 (k0_t24 : Fin k0_t24_loop.trips) : Fin 4 → Nat :=
  let c0 : Index := 0#32
  let c0_164 : Index := 0#32
  let c2_i32 : BitVec 32 := 2#32
  let c0_i32_88 : BitVec 32 := 0#32
  let c1_i32_90 : BitVec 32 := 1#32
  let arg4 : BitVec 32 := Scf.iv c0_i32_88 c1_i32_90 k0_t24
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off82 (k0_t24 : Fin k0_t24_loop.trips) : Fin 4 → Nat :=
  let c0_167 : Index := 0#32
  let c0_168 : Index := 0#32
  let c2_i32 : BitVec 32 := 2#32
  let c0_i32_88 : BitVec 32 := 0#32
  let c1_i32_90 : BitVec 32 := 1#32
  let arg4 : BitVec 32 := Scf.iv c0_i32_88 c1_i32_90 k0_t24
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off83 (k0_t24 : Fin k0_t24_loop.trips) : Fin 4 → Nat :=
  let c0_187 : Index := 0#32
  let c0_188 : Index := 0#32
  let c2_i32_180 : BitVec 32 := 2#32
  let c0_i32_88 : BitVec 32 := 0#32
  let c1_i32_90 : BitVec 32 := 1#32
  let arg4 : BitVec 32 := Scf.iv c0_i32_88 c1_i32_90 k0_t24
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c64_i32_186 : BitVec 32 := 64#32
  let v82 : BitVec 32 := Scalar.muli v80 c64_i32_186
  let v83 : Index := Scalar.indexCast v82
  let c0_189 : Index := 0#32
  ![0, 0, v83.toNat, 0]
def k0_off84 (k0_t24 : Fin k0_t24_loop.trips) : Fin 4 → Nat :=
  let c0_191 : Index := 0#32
  let c0_192 : Index := 0#32
  let c2_i32_180 : BitVec 32 := 2#32
  let c0_i32_88 : BitVec 32 := 0#32
  let c1_i32_90 : BitVec 32 := 1#32
  let arg4 : BitVec 32 := Scf.iv c0_i32_88 c1_i32_90 k0_t24
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c2_i32_185 : BitVec 32 := 2#32
  let v81 : BitVec 32 := Scalar.addi v80 c2_i32_185
  let c64_i32_190 : BitVec 32 := 64#32
  let v86 : BitVec 32 := Scalar.muli v81 c64_i32_190
  let v87 : Index := Scalar.indexCast v86
  let c0_193 : Index := 0#32
  ![0, 0, v87.toNat, 0]
@[reducible] def k0_t25_loop : Scf.Loop 32 :=
  let c0_i32_92 : BitVec 32 := 0#32
  let c8_i32_93 : BitVec 32 := 8#32
  let v26 : BitVec 32 := Scalar.addi c0_i32_92 c8_i32_93
  let c1_i32_94 : BitVec 32 := 1#32
  ⟨c0_i32_92, v26, c1_i32_94⟩
def k0_off85 (k0_t25 : Fin k0_t25_loop.trips) : Fin 4 → Nat :=
  let c0 : Index := 0#32
  let c0_164 : Index := 0#32
  let c2_i32 : BitVec 32 := 2#32
  let c0_i32_92 : BitVec 32 := 0#32
  let c1_i32_94 : BitVec 32 := 1#32
  let arg4 : BitVec 32 := Scf.iv c0_i32_92 c1_i32_94 k0_t25
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off86 (k0_t25 : Fin k0_t25_loop.trips) : Fin 4 → Nat :=
  let c0_167 : Index := 0#32
  let c0_168 : Index := 0#32
  let c2_i32 : BitVec 32 := 2#32
  let c0_i32_92 : BitVec 32 := 0#32
  let c1_i32_94 : BitVec 32 := 1#32
  let arg4 : BitVec 32 := Scf.iv c0_i32_92 c1_i32_94 k0_t25
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off87 (k0_t25 : Fin k0_t25_loop.trips) : Fin 4 → Nat :=
  let c0_216 : Index := 0#32
  let c0_217 : Index := 0#32
  let c2_i32_209 : BitVec 32 := 2#32
  let c0_i32_92 : BitVec 32 := 0#32
  let c1_i32_94 : BitVec 32 := 1#32
  let arg4 : BitVec 32 := Scf.iv c0_i32_92 c1_i32_94 k0_t25
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c64_i32_215 : BitVec 32 := 64#32
  let v258 : BitVec 32 := Scalar.muli v256 c64_i32_215
  let v259 : Index := Scalar.indexCast v258
  let c0_218 : Index := 0#32
  ![0, 0, v259.toNat, 0]
def k0_off88 (k0_t25 : Fin k0_t25_loop.trips) : Fin 4 → Nat :=
  let c0_220 : Index := 0#32
  let c0_221 : Index := 0#32
  let c2_i32_209 : BitVec 32 := 2#32
  let c0_i32_92 : BitVec 32 := 0#32
  let c1_i32_94 : BitVec 32 := 1#32
  let arg4 : BitVec 32 := Scf.iv c0_i32_92 c1_i32_94 k0_t25
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c1_i32_214 : BitVec 32 := 1#32
  let v257 : BitVec 32 := Scalar.addi v256 c1_i32_214
  let c64_i32_219 : BitVec 32 := 64#32
  let v262 : BitVec 32 := Scalar.muli v257 c64_i32_219
  let v263 : Index := Scalar.indexCast v262
  let c0_222 : Index := 0#32
  ![0, 0, v263.toNat, 0]
@[reducible] def k0_t26_loop : Scf.Loop 32 :=
  let c0_i32_96 : BitVec 32 := 0#32
  let c8_i32_97 : BitVec 32 := 8#32
  let v27 : BitVec 32 := Scalar.addi c0_i32_96 c8_i32_97
  let c1_i32_98 : BitVec 32 := 1#32
  ⟨c0_i32_96, v27, c1_i32_98⟩
def k0_off89 (k0_t26 : Fin k0_t26_loop.trips) : Fin 4 → Nat :=
  let c0 : Index := 0#32
  let c0_161 : Index := 0#32
  let c2_i32 : BitVec 32 := 2#32
  let c0_i32_96 : BitVec 32 := 0#32
  let c1_i32_98 : BitVec 32 := 1#32
  let arg4 : BitVec 32 := Scf.iv c0_i32_96 c1_i32_98 k0_t26
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off90 (k0_t26 : Fin k0_t26_loop.trips) : Fin 4 → Nat :=
  let c0_164 : Index := 0#32
  let c0_165 : Index := 0#32
  let c2_i32 : BitVec 32 := 2#32
  let c0_i32_96 : BitVec 32 := 0#32
  let c1_i32_98 : BitVec 32 := 1#32
  let arg4 : BitVec 32 := Scf.iv c0_i32_96 c1_i32_98 k0_t26
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off91 (k0_t26 : Fin k0_t26_loop.trips) : Fin 4 → Nat :=
  let c0_223 : Index := 0#32
  let c0_224 : Index := 0#32
  let c2_i32_216 : BitVec 32 := 2#32
  let c0_i32_96 : BitVec 32 := 0#32
  let c1_i32_98 : BitVec 32 := 1#32
  let arg4 : BitVec 32 := Scf.iv c0_i32_96 c1_i32_98 k0_t26
  let v179 : BitVec 32 := Scalar.muli c2_i32_216 arg4
  let c1_i32_217 : BitVec 32 := 1#32
  let v180 : BitVec 32 := Scalar.addi v179 c1_i32_217
  let c4_i32_218 : BitVec 32 := 4#32
  let v181 : BitVec 32 := Scalar.shrsi v180 c4_i32_218
  let c5_i32_219 : BitVec 32 := 5#32
  let v182 : BitVec 32 := Scalar.shli v181 c5_i32_219
  let c15_i32_220 : BitVec 32 := 15#32
  let v183 : BitVec 32 := Scalar.andi v180 c15_i32_220
  let v184 : BitVec 32 := Scalar.ori v182 v183
  let c64_i32_222 : BitVec 32 := 64#32
  let v186 : BitVec 32 := Scalar.muli v184 c64_i32_222
  let v187 : Index := Scalar.indexCast v186
  let c0_225 : Index := 0#32
  ![0, 0, v187.toNat, 0]
def k0_off92 (k0_t26 : Fin k0_t26_loop.trips) : Fin 4 → Nat :=
  let c0_227 : Index := 0#32
  let c0_228 : Index := 0#32
  let c2_i32_216 : BitVec 32 := 2#32
  let c0_i32_96 : BitVec 32 := 0#32
  let c1_i32_98 : BitVec 32 := 1#32
  let arg4 : BitVec 32 := Scf.iv c0_i32_96 c1_i32_98 k0_t26
  let v179 : BitVec 32 := Scalar.muli c2_i32_216 arg4
  let c1_i32_217 : BitVec 32 := 1#32
  let v180 : BitVec 32 := Scalar.addi v179 c1_i32_217
  let c4_i32_218 : BitVec 32 := 4#32
  let v181 : BitVec 32 := Scalar.shrsi v180 c4_i32_218
  let c5_i32_219 : BitVec 32 := 5#32
  let v182 : BitVec 32 := Scalar.shli v181 c5_i32_219
  let c15_i32_220 : BitVec 32 := 15#32
  let v183 : BitVec 32 := Scalar.andi v180 c15_i32_220
  let v184 : BitVec 32 := Scalar.ori v182 v183
  let c16_i32_221 : BitVec 32 := 16#32
  let v185 : BitVec 32 := Scalar.addi v184 c16_i32_221
  let c64_i32_226 : BitVec 32 := 64#32
  let v190 : BitVec 32 := Scalar.muli v185 c64_i32_226
  let v191 : Index := Scalar.indexCast v190
  let c0_229 : Index := 0#32
  ![0, 0, v191.toNat, 0]
@[reducible] def k0_t27_loop : Scf.Loop 32 :=
  let c0_i32_100 : BitVec 32 := 0#32
  let c8_i32_101 : BitVec 32 := 8#32
  let v28 : BitVec 32 := Scalar.addi c0_i32_100 c8_i32_101
  let c1_i32_102 : BitVec 32 := 1#32
  ⟨c0_i32_100, v28, c1_i32_102⟩
def k0_off93 (k0_t27 : Fin k0_t27_loop.trips) : Fin 4 → Nat :=
  let c0 : Index := 0#32
  let c0_160 : Index := 0#32
  let c0_i32_100 : BitVec 32 := 0#32
  let c1_i32_102 : BitVec 32 := 1#32
  let arg4 : BitVec 32 := Scf.iv c0_i32_100 c1_i32_102 k0_t27
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off94 (k0_t27 : Fin k0_t27_loop.trips) (c4_i32_162 : BitVec 32) : Fin 4 → Nat :=
  let c0_164 : Index := 0#32
  let c0_165 : Index := 0#32
  let c0_i32_100 : BitVec 32 := 0#32
  let c1_i32_102 : BitVec 32 := 1#32
  let arg4 : BitVec 32 := Scf.iv c0_i32_100 c1_i32_102 k0_t27
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t28_loop : Scf.Loop 32 :=
  let c0_i32_104 : BitVec 32 := 0#32
  let c8_i32_105 : BitVec 32 := 8#32
  let v29 : BitVec 32 := Scalar.addi c0_i32_104 c8_i32_105
  let c1_i32_106 : BitVec 32 := 1#32
  ⟨c0_i32_104, v29, c1_i32_106⟩
def k0_off95 (k0_t28 : Fin k0_t28_loop.trips) : Fin 4 → Nat :=
  let c0 : Index := 0#32
  let c0_164 : Index := 0#32
  let c2_i32 : BitVec 32 := 2#32
  let c0_i32_104 : BitVec 32 := 0#32
  let c1_i32_106 : BitVec 32 := 1#32
  let arg4 : BitVec 32 := Scf.iv c0_i32_104 c1_i32_106 k0_t28
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off96 (k0_t28 : Fin k0_t28_loop.trips) : Fin 4 → Nat :=
  let c0_167 : Index := 0#32
  let c0_168 : Index := 0#32
  let c2_i32 : BitVec 32 := 2#32
  let c0_i32_104 : BitVec 32 := 0#32
  let c1_i32_106 : BitVec 32 := 1#32
  let arg4 : BitVec 32 := Scf.iv c0_i32_104 c1_i32_106 k0_t28
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off97 (k0_t28 : Fin k0_t28_loop.trips) : Fin 4 → Nat :=
  let c0_187 : Index := 0#32
  let c0_188 : Index := 0#32
  let c2_i32_180 : BitVec 32 := 2#32
  let c0_i32_104 : BitVec 32 := 0#32
  let c1_i32_106 : BitVec 32 := 1#32
  let arg4 : BitVec 32 := Scf.iv c0_i32_104 c1_i32_106 k0_t28
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c64_i32_186 : BitVec 32 := 64#32
  let v82 : BitVec 32 := Scalar.muli v80 c64_i32_186
  let v83 : Index := Scalar.indexCast v82
  let c0_189 : Index := 0#32
  ![0, 0, v83.toNat, 0]
def k0_off98 (k0_t28 : Fin k0_t28_loop.trips) : Fin 4 → Nat :=
  let c0_191 : Index := 0#32
  let c0_192 : Index := 0#32
  let c2_i32_180 : BitVec 32 := 2#32
  let c0_i32_104 : BitVec 32 := 0#32
  let c1_i32_106 : BitVec 32 := 1#32
  let arg4 : BitVec 32 := Scf.iv c0_i32_104 c1_i32_106 k0_t28
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c2_i32_185 : BitVec 32 := 2#32
  let v81 : BitVec 32 := Scalar.addi v80 c2_i32_185
  let c64_i32_190 : BitVec 32 := 64#32
  let v86 : BitVec 32 := Scalar.muli v81 c64_i32_190
  let v87 : Index := Scalar.indexCast v86
  let c0_193 : Index := 0#32
  ![0, 0, v87.toNat, 0]
@[reducible] def k0_t29_loop : Scf.Loop 32 :=
  let c0_i32_108 : BitVec 32 := 0#32
  let c8_i32_109 : BitVec 32 := 8#32
  let v30 : BitVec 32 := Scalar.addi c0_i32_108 c8_i32_109
  let c1_i32_110 : BitVec 32 := 1#32
  ⟨c0_i32_108, v30, c1_i32_110⟩
def k0_off99 (k0_t29 : Fin k0_t29_loop.trips) : Fin 4 → Nat :=
  let c0 : Index := 0#32
  let c0_164 : Index := 0#32
  let c2_i32 : BitVec 32 := 2#32
  let c0_i32_108 : BitVec 32 := 0#32
  let c1_i32_110 : BitVec 32 := 1#32
  let arg4 : BitVec 32 := Scf.iv c0_i32_108 c1_i32_110 k0_t29
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off100 (k0_t29 : Fin k0_t29_loop.trips) : Fin 4 → Nat :=
  let c0_167 : Index := 0#32
  let c0_168 : Index := 0#32
  let c2_i32 : BitVec 32 := 2#32
  let c0_i32_108 : BitVec 32 := 0#32
  let c1_i32_110 : BitVec 32 := 1#32
  let arg4 : BitVec 32 := Scf.iv c0_i32_108 c1_i32_110 k0_t29
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off101 (k0_t29 : Fin k0_t29_loop.trips) : Fin 4 → Nat :=
  let c0_216 : Index := 0#32
  let c0_217 : Index := 0#32
  let c2_i32_209 : BitVec 32 := 2#32
  let c0_i32_108 : BitVec 32 := 0#32
  let c1_i32_110 : BitVec 32 := 1#32
  let arg4 : BitVec 32 := Scf.iv c0_i32_108 c1_i32_110 k0_t29
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c64_i32_215 : BitVec 32 := 64#32
  let v258 : BitVec 32 := Scalar.muli v256 c64_i32_215
  let v259 : Index := Scalar.indexCast v258
  let c0_218 : Index := 0#32
  ![0, 0, v259.toNat, 0]
def k0_off102 (k0_t29 : Fin k0_t29_loop.trips) : Fin 4 → Nat :=
  let c0_220 : Index := 0#32
  let c0_221 : Index := 0#32
  let c2_i32_209 : BitVec 32 := 2#32
  let c0_i32_108 : BitVec 32 := 0#32
  let c1_i32_110 : BitVec 32 := 1#32
  let arg4 : BitVec 32 := Scf.iv c0_i32_108 c1_i32_110 k0_t29
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c1_i32_214 : BitVec 32 := 1#32
  let v257 : BitVec 32 := Scalar.addi v256 c1_i32_214
  let c64_i32_219 : BitVec 32 := 64#32
  let v262 : BitVec 32 := Scalar.muli v257 c64_i32_219
  let v263 : Index := Scalar.indexCast v262
  let c0_222 : Index := 0#32
  ![0, 0, v263.toNat, 0]
@[reducible] def k0_t30_loop : Scf.Loop 32 :=
  let c0_i32_112 : BitVec 32 := 0#32
  let c8_i32_113 : BitVec 32 := 8#32
  let v31 : BitVec 32 := Scalar.addi c0_i32_112 c8_i32_113
  let c1_i32_114 : BitVec 32 := 1#32
  ⟨c0_i32_112, v31, c1_i32_114⟩
def k0_off103 (k0_t30 : Fin k0_t30_loop.trips) : Fin 4 → Nat :=
  let c0 : Index := 0#32
  let c0_161 : Index := 0#32
  let c2_i32 : BitVec 32 := 2#32
  let c0_i32_112 : BitVec 32 := 0#32
  let c1_i32_114 : BitVec 32 := 1#32
  let arg4 : BitVec 32 := Scf.iv c0_i32_112 c1_i32_114 k0_t30
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off104 (k0_t30 : Fin k0_t30_loop.trips) : Fin 4 → Nat :=
  let c0_164 : Index := 0#32
  let c0_165 : Index := 0#32
  let c2_i32 : BitVec 32 := 2#32
  let c0_i32_112 : BitVec 32 := 0#32
  let c1_i32_114 : BitVec 32 := 1#32
  let arg4 : BitVec 32 := Scf.iv c0_i32_112 c1_i32_114 k0_t30
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off105 (k0_t30 : Fin k0_t30_loop.trips) : Fin 4 → Nat :=
  let c0_231 : Index := 0#32
  let c0_232 : Index := 0#32
  let c2_i32_224 : BitVec 32 := 2#32
  let c0_i32_112 : BitVec 32 := 0#32
  let c1_i32_114 : BitVec 32 := 1#32
  let arg4 : BitVec 32 := Scf.iv c0_i32_112 c1_i32_114 k0_t30
  let v203 : BitVec 32 := Scalar.muli c2_i32_224 arg4
  let c1_i32_225 : BitVec 32 := 1#32
  let v204 : BitVec 32 := Scalar.addi v203 c1_i32_225
  let c4_i32_226 : BitVec 32 := 4#32
  let v205 : BitVec 32 := Scalar.shrsi v204 c4_i32_226
  let c5_i32_227 : BitVec 32 := 5#32
  let v206 : BitVec 32 := Scalar.shli v205 c5_i32_227
  let c15_i32_228 : BitVec 32 := 15#32
  let v207 : BitVec 32 := Scalar.andi v204 c15_i32_228
  let v208 : BitVec 32 := Scalar.ori v206 v207
  let c64_i32_230 : BitVec 32 := 64#32
  let v210 : BitVec 32 := Scalar.muli v208 c64_i32_230
  let v211 : Index := Scalar.indexCast v210
  let c0_233 : Index := 0#32
  ![0, 0, v211.toNat, 0]
def k0_off106 (k0_t30 : Fin k0_t30_loop.trips) : Fin 4 → Nat :=
  let c0_235 : Index := 0#32
  let c0_236 : Index := 0#32
  let c2_i32_224 : BitVec 32 := 2#32
  let c0_i32_112 : BitVec 32 := 0#32
  let c1_i32_114 : BitVec 32 := 1#32
  let arg4 : BitVec 32 := Scf.iv c0_i32_112 c1_i32_114 k0_t30
  let v203 : BitVec 32 := Scalar.muli c2_i32_224 arg4
  let c1_i32_225 : BitVec 32 := 1#32
  let v204 : BitVec 32 := Scalar.addi v203 c1_i32_225
  let c4_i32_226 : BitVec 32 := 4#32
  let v205 : BitVec 32 := Scalar.shrsi v204 c4_i32_226
  let c5_i32_227 : BitVec 32 := 5#32
  let v206 : BitVec 32 := Scalar.shli v205 c5_i32_227
  let c15_i32_228 : BitVec 32 := 15#32
  let v207 : BitVec 32 := Scalar.andi v204 c15_i32_228
  let v208 : BitVec 32 := Scalar.ori v206 v207
  let c16_i32_229 : BitVec 32 := 16#32
  let v209 : BitVec 32 := Scalar.addi v208 c16_i32_229
  let c64_i32_234 : BitVec 32 := 64#32
  let v214 : BitVec 32 := Scalar.muli v209 c64_i32_234
  let v215 : Index := Scalar.indexCast v214
  let c0_237 : Index := 0#32
  ![0, 0, v215.toNat, 0]
@[reducible] def k0_t31_loop : Scf.Loop 32 :=
  let c0_i32_116 : BitVec 32 := 0#32
  let c8_i32_117 : BitVec 32 := 8#32
  let v32 : BitVec 32 := Scalar.addi c0_i32_116 c8_i32_117
  let c1_i32_118 : BitVec 32 := 1#32
  ⟨c0_i32_116, v32, c1_i32_118⟩
def k0_off107 (k0_t31 : Fin k0_t31_loop.trips) : Fin 4 → Nat :=
  let c0 : Index := 0#32
  let c0_160 : Index := 0#32
  let c0_i32_116 : BitVec 32 := 0#32
  let c1_i32_118 : BitVec 32 := 1#32
  let arg4 : BitVec 32 := Scf.iv c0_i32_116 c1_i32_118 k0_t31
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off108 (k0_t31 : Fin k0_t31_loop.trips) (c4_i32_162 : BitVec 32) : Fin 4 → Nat :=
  let c0_164 : Index := 0#32
  let c0_165 : Index := 0#32
  let c0_i32_116 : BitVec 32 := 0#32
  let c1_i32_118 : BitVec 32 := 1#32
  let arg4 : BitVec 32 := Scf.iv c0_i32_116 c1_i32_118 k0_t31
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t32_loop : Scf.Loop 32 :=
  let c0_i32_120 : BitVec 32 := 0#32
  let c8_i32_121 : BitVec 32 := 8#32
  let v33 : BitVec 32 := Scalar.addi c0_i32_120 c8_i32_121
  let c1_i32_122 : BitVec 32 := 1#32
  ⟨c0_i32_120, v33, c1_i32_122⟩
def k0_off109 (k0_t32 : Fin k0_t32_loop.trips) : Fin 4 → Nat :=
  let c0 : Index := 0#32
  let c0_164 : Index := 0#32
  let c2_i32 : BitVec 32 := 2#32
  let c0_i32_120 : BitVec 32 := 0#32
  let c1_i32_122 : BitVec 32 := 1#32
  let arg4 : BitVec 32 := Scf.iv c0_i32_120 c1_i32_122 k0_t32
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off110 (k0_t32 : Fin k0_t32_loop.trips) : Fin 4 → Nat :=
  let c0_167 : Index := 0#32
  let c0_168 : Index := 0#32
  let c2_i32 : BitVec 32 := 2#32
  let c0_i32_120 : BitVec 32 := 0#32
  let c1_i32_122 : BitVec 32 := 1#32
  let arg4 : BitVec 32 := Scf.iv c0_i32_120 c1_i32_122 k0_t32
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off111 (k0_t32 : Fin k0_t32_loop.trips) : Fin 4 → Nat :=
  let c0_186 : Index := 0#32
  let c0_187 : Index := 0#32
  let c2_i32_179 : BitVec 32 := 2#32
  let c0_i32_120 : BitVec 32 := 0#32
  let c1_i32_122 : BitVec 32 := 1#32
  let arg4 : BitVec 32 := Scf.iv c0_i32_120 c1_i32_122 k0_t32
  let v75 : BitVec 32 := Scalar.muli c2_i32_179 arg4
  let c1_i32_180 : BitVec 32 := 1#32
  let v76 : BitVec 32 := Scalar.addi v75 c1_i32_180
  let c1_i32_181 : BitVec 32 := 1#32
  let v77 : BitVec 32 := Scalar.shrsi v76 c1_i32_181
  let c2_i32_182 : BitVec 32 := 2#32
  let v78 : BitVec 32 := Scalar.shli v77 c2_i32_182
  let c1_i32_183 : BitVec 32 := 1#32
  let v79 : BitVec 32 := Scalar.andi v76 c1_i32_183
  let v80 : BitVec 32 := Scalar.ori v78 v79
  let c64_i32_185 : BitVec 32 := 64#32
  let v82 : BitVec 32 := Scalar.muli v80 c64_i32_185
  let v83 : Index := Scalar.indexCast v82
  let c0_188 : Index := 0#32
  ![0, 0, v83.toNat, 0]
def k0_off112 (k0_t32 : Fin k0_t32_loop.trips) : Fin 4 → Nat :=
  let c0_190 : Index := 0#32
  let c0_191 : Index := 0#32
  let c2_i32_179 : BitVec 32 := 2#32
  let c0_i32_120 : BitVec 32 := 0#32
  let c1_i32_122 : BitVec 32 := 1#32
  let arg4 : BitVec 32 := Scf.iv c0_i32_120 c1_i32_122 k0_t32
  let v75 : BitVec 32 := Scalar.muli c2_i32_179 arg4
  let c1_i32_180 : BitVec 32 := 1#32
  let v76 : BitVec 32 := Scalar.addi v75 c1_i32_180
  let c1_i32_181 : BitVec 32 := 1#32
  let v77 : BitVec 32 := Scalar.shrsi v76 c1_i32_181
  let c2_i32_182 : BitVec 32 := 2#32
  let v78 : BitVec 32 := Scalar.shli v77 c2_i32_182
  let c1_i32_183 : BitVec 32 := 1#32
  let v79 : BitVec 32 := Scalar.andi v76 c1_i32_183
  let v80 : BitVec 32 := Scalar.ori v78 v79
  let c2_i32_184 : BitVec 32 := 2#32
  let v81 : BitVec 32 := Scalar.addi v80 c2_i32_184
  let c64_i32_189 : BitVec 32 := 64#32
  let v86 : BitVec 32 := Scalar.muli v81 c64_i32_189
  let v87 : Index := Scalar.indexCast v86
  let c0_192 : Index := 0#32
  ![0, 0, v87.toNat, 0]
@[reducible] def k0_t33_loop : Scf.Loop 32 :=
  let c0_i32_124 : BitVec 32 := 0#32
  let c8_i32_125 : BitVec 32 := 8#32
  let v34 : BitVec 32 := Scalar.addi c0_i32_124 c8_i32_125
  let c1_i32_126 : BitVec 32 := 1#32
  ⟨c0_i32_124, v34, c1_i32_126⟩
def k0_off113 (k0_t33 : Fin k0_t33_loop.trips) : Fin 4 → Nat :=
  let c0 : Index := 0#32
  let c0_164 : Index := 0#32
  let c2_i32 : BitVec 32 := 2#32
  let c0_i32_124 : BitVec 32 := 0#32
  let c1_i32_126 : BitVec 32 := 1#32
  let arg4 : BitVec 32 := Scf.iv c0_i32_124 c1_i32_126 k0_t33
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off114 (k0_t33 : Fin k0_t33_loop.trips) : Fin 4 → Nat :=
  let c0_167 : Index := 0#32
  let c0_168 : Index := 0#32
  let c2_i32 : BitVec 32 := 2#32
  let c0_i32_124 : BitVec 32 := 0#32
  let c1_i32_126 : BitVec 32 := 1#32
  let arg4 : BitVec 32 := Scf.iv c0_i32_124 c1_i32_126 k0_t33
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off115 (k0_t33 : Fin k0_t33_loop.trips) : Fin 4 → Nat :=
  let c0_215 : Index := 0#32
  let c0_216 : Index := 0#32
  let c2_i32_208 : BitVec 32 := 2#32
  let c0_i32_124 : BitVec 32 := 0#32
  let c1_i32_126 : BitVec 32 := 1#32
  let arg4 : BitVec 32 := Scf.iv c0_i32_124 c1_i32_126 k0_t33
  let v251 : BitVec 32 := Scalar.muli c2_i32_208 arg4
  let c1_i32_209 : BitVec 32 := 1#32
  let v252 : BitVec 32 := Scalar.addi v251 c1_i32_209
  let c0_i32_210 : BitVec 32 := 0#32
  let v253 : BitVec 32 := Scalar.shrsi v252 c0_i32_210
  let c1_i32_211 : BitVec 32 := 1#32
  let v254 : BitVec 32 := Scalar.shli v253 c1_i32_211
  let c0_i32_212 : BitVec 32 := 0#32
  let v255 : BitVec 32 := Scalar.andi v252 c0_i32_212
  let v256 : BitVec 32 := Scalar.ori v254 v255
  let c64_i32_214 : BitVec 32 := 64#32
  let v258 : BitVec 32 := Scalar.muli v256 c64_i32_214
  let v259 : Index := Scalar.indexCast v258
  let c0_217 : Index := 0#32
  ![0, 0, v259.toNat, 0]
def k0_off116 (k0_t33 : Fin k0_t33_loop.trips) : Fin 4 → Nat :=
  let c0_219 : Index := 0#32
  let c0_220 : Index := 0#32
  let c2_i32_208 : BitVec 32 := 2#32
  let c0_i32_124 : BitVec 32 := 0#32
  let c1_i32_126 : BitVec 32 := 1#32
  let arg4 : BitVec 32 := Scf.iv c0_i32_124 c1_i32_126 k0_t33
  let v251 : BitVec 32 := Scalar.muli c2_i32_208 arg4
  let c1_i32_209 : BitVec 32 := 1#32
  let v252 : BitVec 32 := Scalar.addi v251 c1_i32_209
  let c0_i32_210 : BitVec 32 := 0#32
  let v253 : BitVec 32 := Scalar.shrsi v252 c0_i32_210
  let c1_i32_211 : BitVec 32 := 1#32
  let v254 : BitVec 32 := Scalar.shli v253 c1_i32_211
  let c0_i32_212 : BitVec 32 := 0#32
  let v255 : BitVec 32 := Scalar.andi v252 c0_i32_212
  let v256 : BitVec 32 := Scalar.ori v254 v255
  let c1_i32_213 : BitVec 32 := 1#32
  let v257 : BitVec 32 := Scalar.addi v256 c1_i32_213
  let c64_i32_218 : BitVec 32 := 64#32
  let v262 : BitVec 32 := Scalar.muli v257 c64_i32_218
  let v263 : Index := Scalar.indexCast v262
  let c0_221 : Index := 0#32
  ![0, 0, v263.toNat, 0]
@[reducible] def k0_t34_loop : Scf.Loop 32 :=
  let c0_i32_128 : BitVec 32 := 0#32
  let c8_i32_129 : BitVec 32 := 8#32
  let v35 : BitVec 32 := Scalar.addi c0_i32_128 c8_i32_129
  let c1_i32_130 : BitVec 32 := 1#32
  ⟨c0_i32_128, v35, c1_i32_130⟩
def k0_off117 (k0_t34 : Fin k0_t34_loop.trips) : Fin 4 → Nat :=
  let c0 : Index := 0#32
  let c0_161 : Index := 0#32
  let c2_i32 : BitVec 32 := 2#32
  let c0_i32_128 : BitVec 32 := 0#32
  let c1_i32_130 : BitVec 32 := 1#32
  let arg4 : BitVec 32 := Scf.iv c0_i32_128 c1_i32_130 k0_t34
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off118 (k0_t34 : Fin k0_t34_loop.trips) : Fin 4 → Nat :=
  let c0_164 : Index := 0#32
  let c0_165 : Index := 0#32
  let c2_i32 : BitVec 32 := 2#32
  let c0_i32_128 : BitVec 32 := 0#32
  let c1_i32_130 : BitVec 32 := 1#32
  let arg4 : BitVec 32 := Scf.iv c0_i32_128 c1_i32_130 k0_t34
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off119 (k0_t34 : Fin k0_t34_loop.trips) : Fin 4 → Nat :=
  let c0_240 : Index := 0#32
  let c0_241 : Index := 0#32
  let c2_i32_233 : BitVec 32 := 2#32
  let c0_i32_128 : BitVec 32 := 0#32
  let c1_i32_130 : BitVec 32 := 1#32
  let arg4 : BitVec 32 := Scf.iv c0_i32_128 c1_i32_130 k0_t34
  let v227 : BitVec 32 := Scalar.muli c2_i32_233 arg4
  let c1_i32_234 : BitVec 32 := 1#32
  let v228 : BitVec 32 := Scalar.addi v227 c1_i32_234
  let c4_i32_235 : BitVec 32 := 4#32
  let v229 : BitVec 32 := Scalar.shrsi v228 c4_i32_235
  let c5_i32_236 : BitVec 32 := 5#32
  let v230 : BitVec 32 := Scalar.shli v229 c5_i32_236
  let c15_i32_237 : BitVec 32 := 15#32
  let v231 : BitVec 32 := Scalar.andi v228 c15_i32_237
  let v232 : BitVec 32 := Scalar.ori v230 v231
  let c64_i32_239 : BitVec 32 := 64#32
  let v234 : BitVec 32 := Scalar.muli v232 c64_i32_239
  let v235 : Index := Scalar.indexCast v234
  let c0_242 : Index := 0#32
  ![0, 0, v235.toNat, 0]
def k0_off120 (k0_t34 : Fin k0_t34_loop.trips) : Fin 4 → Nat :=
  let c0_244 : Index := 0#32
  let c0_245 : Index := 0#32
  let c2_i32_233 : BitVec 32 := 2#32
  let c0_i32_128 : BitVec 32 := 0#32
  let c1_i32_130 : BitVec 32 := 1#32
  let arg4 : BitVec 32 := Scf.iv c0_i32_128 c1_i32_130 k0_t34
  let v227 : BitVec 32 := Scalar.muli c2_i32_233 arg4
  let c1_i32_234 : BitVec 32 := 1#32
  let v228 : BitVec 32 := Scalar.addi v227 c1_i32_234
  let c4_i32_235 : BitVec 32 := 4#32
  let v229 : BitVec 32 := Scalar.shrsi v228 c4_i32_235
  let c5_i32_236 : BitVec 32 := 5#32
  let v230 : BitVec 32 := Scalar.shli v229 c5_i32_236
  let c15_i32_237 : BitVec 32 := 15#32
  let v231 : BitVec 32 := Scalar.andi v228 c15_i32_237
  let v232 : BitVec 32 := Scalar.ori v230 v231
  let c16_i32_238 : BitVec 32 := 16#32
  let v233 : BitVec 32 := Scalar.addi v232 c16_i32_238
  let c64_i32_243 : BitVec 32 := 64#32
  let v238 : BitVec 32 := Scalar.muli v233 c64_i32_243
  let v239 : Index := Scalar.indexCast v238
  let c0_246 : Index := 0#32
  ![0, 0, v239.toNat, 0]
@[reducible] def k0_t35_loop : Scf.Loop 32 :=
  let c0_i32_132 : BitVec 32 := 0#32
  let c8_i32_133 : BitVec 32 := 8#32
  let v36 : BitVec 32 := Scalar.addi c0_i32_132 c8_i32_133
  let c1_i32_134 : BitVec 32 := 1#32
  ⟨c0_i32_132, v36, c1_i32_134⟩
def k0_off121 (k0_t35 : Fin k0_t35_loop.trips) : Fin 4 → Nat :=
  let c0 : Index := 0#32
  let c0_160 : Index := 0#32
  let c0_i32_132 : BitVec 32 := 0#32
  let c1_i32_134 : BitVec 32 := 1#32
  let arg4 : BitVec 32 := Scf.iv c0_i32_132 c1_i32_134 k0_t35
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off122 (k0_t35 : Fin k0_t35_loop.trips) (c4_i32_162 : BitVec 32) : Fin 4 → Nat :=
  let c0_164 : Index := 0#32
  let c0_165 : Index := 0#32
  let c0_i32_132 : BitVec 32 := 0#32
  let c1_i32_134 : BitVec 32 := 1#32
  let arg4 : BitVec 32 := Scf.iv c0_i32_132 c1_i32_134 k0_t35
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t36_loop : Scf.Loop 32 :=
  let c0_i32_136 : BitVec 32 := 0#32
  let c8_i32_137 : BitVec 32 := 8#32
  let v37 : BitVec 32 := Scalar.addi c0_i32_136 c8_i32_137
  let c1_i32_138 : BitVec 32 := 1#32
  ⟨c0_i32_136, v37, c1_i32_138⟩
def k0_off123 (k0_t36 : Fin k0_t36_loop.trips) : Fin 4 → Nat :=
  let c0 : Index := 0#32
  let c0_164 : Index := 0#32
  let c2_i32 : BitVec 32 := 2#32
  let c0_i32_136 : BitVec 32 := 0#32
  let c1_i32_138 : BitVec 32 := 1#32
  let arg4 : BitVec 32 := Scf.iv c0_i32_136 c1_i32_138 k0_t36
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off124 (k0_t36 : Fin k0_t36_loop.trips) : Fin 4 → Nat :=
  let c0_167 : Index := 0#32
  let c0_168 : Index := 0#32
  let c2_i32 : BitVec 32 := 2#32
  let c0_i32_136 : BitVec 32 := 0#32
  let c1_i32_138 : BitVec 32 := 1#32
  let arg4 : BitVec 32 := Scf.iv c0_i32_136 c1_i32_138 k0_t36
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off125 (k0_t36 : Fin k0_t36_loop.trips) : Fin 4 → Nat :=
  let c0_187 : Index := 0#32
  let c0_188 : Index := 0#32
  let c2_i32_180 : BitVec 32 := 2#32
  let c0_i32_136 : BitVec 32 := 0#32
  let c1_i32_138 : BitVec 32 := 1#32
  let arg4 : BitVec 32 := Scf.iv c0_i32_136 c1_i32_138 k0_t36
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c64_i32_186 : BitVec 32 := 64#32
  let v82 : BitVec 32 := Scalar.muli v80 c64_i32_186
  let v83 : Index := Scalar.indexCast v82
  let c0_189 : Index := 0#32
  ![0, 0, v83.toNat, 0]
def k0_off126 (k0_t36 : Fin k0_t36_loop.trips) : Fin 4 → Nat :=
  let c0_191 : Index := 0#32
  let c0_192 : Index := 0#32
  let c2_i32_180 : BitVec 32 := 2#32
  let c0_i32_136 : BitVec 32 := 0#32
  let c1_i32_138 : BitVec 32 := 1#32
  let arg4 : BitVec 32 := Scf.iv c0_i32_136 c1_i32_138 k0_t36
  let v75 : BitVec 32 := Scalar.muli c2_i32_180 arg4
  let c1_i32_181 : BitVec 32 := 1#32
  let v76 : BitVec 32 := Scalar.addi v75 c1_i32_181
  let c1_i32_182 : BitVec 32 := 1#32
  let v77 : BitVec 32 := Scalar.shrsi v76 c1_i32_182
  let c2_i32_183 : BitVec 32 := 2#32
  let v78 : BitVec 32 := Scalar.shli v77 c2_i32_183
  let c1_i32_184 : BitVec 32 := 1#32
  let v79 : BitVec 32 := Scalar.andi v76 c1_i32_184
  let v80 : BitVec 32 := Scalar.ori v78 v79
  let c2_i32_185 : BitVec 32 := 2#32
  let v81 : BitVec 32 := Scalar.addi v80 c2_i32_185
  let c64_i32_190 : BitVec 32 := 64#32
  let v86 : BitVec 32 := Scalar.muli v81 c64_i32_190
  let v87 : Index := Scalar.indexCast v86
  let c0_193 : Index := 0#32
  ![0, 0, v87.toNat, 0]
@[reducible] def k0_t37_loop : Scf.Loop 32 :=
  let c0_i32_140 : BitVec 32 := 0#32
  let c8_i32_141 : BitVec 32 := 8#32
  let v38 : BitVec 32 := Scalar.addi c0_i32_140 c8_i32_141
  let c1_i32_142 : BitVec 32 := 1#32
  ⟨c0_i32_140, v38, c1_i32_142⟩
def k0_off127 (k0_t37 : Fin k0_t37_loop.trips) : Fin 4 → Nat :=
  let c0 : Index := 0#32
  let c0_164 : Index := 0#32
  let c2_i32 : BitVec 32 := 2#32
  let c0_i32_140 : BitVec 32 := 0#32
  let c1_i32_142 : BitVec 32 := 1#32
  let arg4 : BitVec 32 := Scf.iv c0_i32_140 c1_i32_142 k0_t37
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off128 (k0_t37 : Fin k0_t37_loop.trips) : Fin 4 → Nat :=
  let c0_167 : Index := 0#32
  let c0_168 : Index := 0#32
  let c2_i32 : BitVec 32 := 2#32
  let c0_i32_140 : BitVec 32 := 0#32
  let c1_i32_142 : BitVec 32 := 1#32
  let arg4 : BitVec 32 := Scf.iv c0_i32_140 c1_i32_142 k0_t37
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off129 (k0_t37 : Fin k0_t37_loop.trips) : Fin 4 → Nat :=
  let c0_216 : Index := 0#32
  let c0_217 : Index := 0#32
  let c2_i32_209 : BitVec 32 := 2#32
  let c0_i32_140 : BitVec 32 := 0#32
  let c1_i32_142 : BitVec 32 := 1#32
  let arg4 : BitVec 32 := Scf.iv c0_i32_140 c1_i32_142 k0_t37
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c64_i32_215 : BitVec 32 := 64#32
  let v258 : BitVec 32 := Scalar.muli v256 c64_i32_215
  let v259 : Index := Scalar.indexCast v258
  let c0_218 : Index := 0#32
  ![0, 0, v259.toNat, 0]
def k0_off130 (k0_t37 : Fin k0_t37_loop.trips) : Fin 4 → Nat :=
  let c0_220 : Index := 0#32
  let c0_221 : Index := 0#32
  let c2_i32_209 : BitVec 32 := 2#32
  let c0_i32_140 : BitVec 32 := 0#32
  let c1_i32_142 : BitVec 32 := 1#32
  let arg4 : BitVec 32 := Scf.iv c0_i32_140 c1_i32_142 k0_t37
  let v251 : BitVec 32 := Scalar.muli c2_i32_209 arg4
  let c1_i32_210 : BitVec 32 := 1#32
  let v252 : BitVec 32 := Scalar.addi v251 c1_i32_210
  let c0_i32_211 : BitVec 32 := 0#32
  let v253 : BitVec 32 := Scalar.shrsi v252 c0_i32_211
  let c1_i32_212 : BitVec 32 := 1#32
  let v254 : BitVec 32 := Scalar.shli v253 c1_i32_212
  let c0_i32_213 : BitVec 32 := 0#32
  let v255 : BitVec 32 := Scalar.andi v252 c0_i32_213
  let v256 : BitVec 32 := Scalar.ori v254 v255
  let c1_i32_214 : BitVec 32 := 1#32
  let v257 : BitVec 32 := Scalar.addi v256 c1_i32_214
  let c64_i32_219 : BitVec 32 := 64#32
  let v262 : BitVec 32 := Scalar.muli v257 c64_i32_219
  let v263 : Index := Scalar.indexCast v262
  let c0_222 : Index := 0#32
  ![0, 0, v263.toNat, 0]
@[reducible] def k0_t38_loop : Scf.Loop 32 :=
  let c0_i32_144 : BitVec 32 := 0#32
  let c8_i32_145 : BitVec 32 := 8#32
  let v39 : BitVec 32 := Scalar.addi c0_i32_144 c8_i32_145
  let c1_i32_146 : BitVec 32 := 1#32
  ⟨c0_i32_144, v39, c1_i32_146⟩
def k0_off131 (k0_t38 : Fin k0_t38_loop.trips) : Fin 4 → Nat :=
  let c0 : Index := 0#32
  let c0_161 : Index := 0#32
  let c2_i32 : BitVec 32 := 2#32
  let c0_i32_144 : BitVec 32 := 0#32
  let c1_i32_146 : BitVec 32 := 1#32
  let arg4 : BitVec 32 := Scf.iv c0_i32_144 c1_i32_146 k0_t38
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c64_i32 : BitVec 32 := 64#32
  let v49 : BitVec 32 := Scalar.muli v47 c64_i32
  let v50 : Index := Scalar.indexCast v49
  let c0_162 : Index := 0#32
  ![0, 0, v50.toNat, 0]
def k0_off132 (k0_t38 : Fin k0_t38_loop.trips) : Fin 4 → Nat :=
  let c0_164 : Index := 0#32
  let c0_165 : Index := 0#32
  let c2_i32 : BitVec 32 := 2#32
  let c0_i32_144 : BitVec 32 := 0#32
  let c1_i32_146 : BitVec 32 := 1#32
  let arg4 : BitVec 32 := Scf.iv c0_i32_144 c1_i32_146 k0_t38
  let v43 : BitVec 32 := Scalar.muli c2_i32 arg4
  let c4_i32 : BitVec 32 := 4#32
  let v44 : BitVec 32 := Scalar.shrsi v43 c4_i32
  let c5_i32 : BitVec 32 := 5#32
  let v45 : BitVec 32 := Scalar.shli v44 c5_i32
  let c15_i32 : BitVec 32 := 15#32
  let v46 : BitVec 32 := Scalar.andi v43 c15_i32
  let v47 : BitVec 32 := Scalar.ori v45 v46
  let c16_i32_160 : BitVec 32 := 16#32
  let v48 : BitVec 32 := Scalar.addi v47 c16_i32_160
  let c64_i32_163 : BitVec 32 := 64#32
  let v53 : BitVec 32 := Scalar.muli v48 c64_i32_163
  let v54 : Index := Scalar.indexCast v53
  let c0_166 : Index := 0#32
  ![0, 0, v54.toNat, 0]
def k0_off133 (k0_t38 : Fin k0_t38_loop.trips) : Fin 4 → Nat :=
  let c0_249 : Index := 0#32
  let c0_250 : Index := 0#32
  let c2_i32_242 : BitVec 32 := 2#32
  let c0_i32_144 : BitVec 32 := 0#32
  let c1_i32_146 : BitVec 32 := 1#32
  let arg4 : BitVec 32 := Scf.iv c0_i32_144 c1_i32_146 k0_t38
  let v251 : BitVec 32 := Scalar.muli c2_i32_242 arg4
  let c1_i32_243 : BitVec 32 := 1#32
  let v252 : BitVec 32 := Scalar.addi v251 c1_i32_243
  let c4_i32_244 : BitVec 32 := 4#32
  let v253 : BitVec 32 := Scalar.shrsi v252 c4_i32_244
  let c5_i32_245 : BitVec 32 := 5#32
  let v254 : BitVec 32 := Scalar.shli v253 c5_i32_245
  let c15_i32_246 : BitVec 32 := 15#32
  let v255 : BitVec 32 := Scalar.andi v252 c15_i32_246
  let v256 : BitVec 32 := Scalar.ori v254 v255
  let c64_i32_248 : BitVec 32 := 64#32
  let v258 : BitVec 32 := Scalar.muli v256 c64_i32_248
  let v259 : Index := Scalar.indexCast v258
  let c0_251 : Index := 0#32
  ![0, 0, v259.toNat, 0]
def k0_off134 (k0_t38 : Fin k0_t38_loop.trips) : Fin 4 → Nat :=
  let c0_253 : Index := 0#32
  let c0_254 : Index := 0#32
  let c2_i32_242 : BitVec 32 := 2#32
  let c0_i32_144 : BitVec 32 := 0#32
  let c1_i32_146 : BitVec 32 := 1#32
  let arg4 : BitVec 32 := Scf.iv c0_i32_144 c1_i32_146 k0_t38
  let v251 : BitVec 32 := Scalar.muli c2_i32_242 arg4
  let c1_i32_243 : BitVec 32 := 1#32
  let v252 : BitVec 32 := Scalar.addi v251 c1_i32_243
  let c4_i32_244 : BitVec 32 := 4#32
  let v253 : BitVec 32 := Scalar.shrsi v252 c4_i32_244
  let c5_i32_245 : BitVec 32 := 5#32
  let v254 : BitVec 32 := Scalar.shli v253 c5_i32_245
  let c15_i32_246 : BitVec 32 := 15#32
  let v255 : BitVec 32 := Scalar.andi v252 c15_i32_246
  let v256 : BitVec 32 := Scalar.ori v254 v255
  let c16_i32_247 : BitVec 32 := 16#32
  let v257 : BitVec 32 := Scalar.addi v256 c16_i32_247
  let c64_i32_252 : BitVec 32 := 64#32
  let v262 : BitVec 32 := Scalar.muli v257 c64_i32_252
  let v263 : Index := Scalar.indexCast v262
  let c0_255 : Index := 0#32
  ![0, 0, v263.toNat, 0]
@[reducible] def k0_t39_loop : Scf.Loop 32 :=
  let c0_i32_148 : BitVec 32 := 0#32
  let c8_i32_149 : BitVec 32 := 8#32
  let v40 : BitVec 32 := Scalar.addi c0_i32_148 c8_i32_149
  let c1_i32_150 : BitVec 32 := 1#32
  ⟨c0_i32_148, v40, c1_i32_150⟩
def k0_off135 (k0_t39 : Fin k0_t39_loop.trips) : Fin 4 → Nat :=
  let c0 : Index := 0#32
  let c0_160 : Index := 0#32
  let c0_i32_148 : BitVec 32 := 0#32
  let c1_i32_150 : BitVec 32 := 1#32
  let arg4 : BitVec 32 := Scf.iv c0_i32_148 c1_i32_150 k0_t39
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let c64_i32 : BitVec 32 := 64#32
  let v47 : BitVec 32 := Scalar.muli v46 c64_i32
  let v48 : Index := Scalar.indexCast v47
  let c0_161 : Index := 0#32
  ![0, 0, v48.toNat, 0]
def k0_off136 (k0_t39 : Fin k0_t39_loop.trips) (c4_i32_162 : BitVec 32) : Fin 4 → Nat :=
  let c0_164 : Index := 0#32
  let c0_165 : Index := 0#32
  let c0_i32_148 : BitVec 32 := 0#32
  let c1_i32_150 : BitVec 32 := 1#32
  let arg4 : BitVec 32 := Scf.iv c0_i32_148 c1_i32_150 k0_t39
  let c2_i32 : BitVec 32 := 2#32
  let v43 : BitVec 32 := Scalar.shrsi arg4 c2_i32
  let c4_i32 : BitVec 32 := 4#32
  let v44 : BitVec 32 := Scalar.shli v43 c4_i32
  let c3_i32 : BitVec 32 := 3#32
  let v45 : BitVec 32 := Scalar.andi arg4 c3_i32
  let v46 : BitVec 32 := Scalar.ori v44 v45
  let v51 : BitVec 32 := Scalar.addi v46 c4_i32_162
  let c64_i32_163 : BitVec 32 := 64#32
  let v52 : BitVec 32 := Scalar.muli v51 c64_i32_163
  let v53 : Index := Scalar.indexCast v52
  let c0_166 : Index := 0#32
  ![0, 0, v53.toNat, 0]
@[reducible] def k0_t40_loop : Scf.Loop 32 :=
  let c0_i32_152 : BitVec 32 := 0#32
  let c8_i32_153 : BitVec 32 := 8#32
  let v41 : BitVec 32 := Scalar.addi c0_i32_152 c8_i32_153
  let c1_i32_154 : BitVec 32 := 1#32
  ⟨c0_i32_152, v41, c1_i32_154⟩
def k0_off137 (k0_t40 : Fin k0_t40_loop.trips) : Fin 4 → Nat :=
  let c0 : Index := 0#32
  let c0_164 : Index := 0#32
  let c2_i32 : BitVec 32 := 2#32
  let c0_i32_152 : BitVec 32 := 0#32
  let c1_i32_154 : BitVec 32 := 1#32
  let arg4 : BitVec 32 := Scf.iv c0_i32_152 c1_i32_154 k0_t40
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off138 (k0_t40 : Fin k0_t40_loop.trips) : Fin 4 → Nat :=
  let c0_167 : Index := 0#32
  let c0_168 : Index := 0#32
  let c2_i32 : BitVec 32 := 2#32
  let c0_i32_152 : BitVec 32 := 0#32
  let c1_i32_154 : BitVec 32 := 1#32
  let arg4 : BitVec 32 := Scf.iv c0_i32_152 c1_i32_154 k0_t40
  let v43 : BitVec 32 := Scalar.muli c2_i32 arg4
  let c1_i32_160 : BitVec 32 := 1#32
  let v44 : BitVec 32 := Scalar.shrsi v43 c1_i32_160
  let c2_i32_161 : BitVec 32 := 2#32
  let v45 : BitVec 32 := Scalar.shli v44 c2_i32_161
  let c1_i32_162 : BitVec 32 := 1#32
  let v46 : BitVec 32 := Scalar.andi v43 c1_i32_162
  let v47 : BitVec 32 := Scalar.ori v45 v46
  let c2_i32_163 : BitVec 32 := 2#32
  let v48 : BitVec 32 := Scalar.addi v47 c2_i32_163
  let c64_i32_166 : BitVec 32 := 64#32
  let v53 : BitVec 32 := Scalar.muli v48 c64_i32_166
  let v54 : Index := Scalar.indexCast v53
  let c0_169 : Index := 0#32
  ![0, 0, v54.toNat, 0]
def k0_off139 (k0_t40 : Fin k0_t40_loop.trips) : Fin 4 → Nat :=
  let c0_186 : Index := 0#32
  let c0_187 : Index := 0#32
  let c2_i32_179 : BitVec 32 := 2#32
  let c0_i32_152 : BitVec 32 := 0#32
  let c1_i32_154 : BitVec 32 := 1#32
  let arg4 : BitVec 32 := Scf.iv c0_i32_152 c1_i32_154 k0_t40
  let v75 : BitVec 32 := Scalar.muli c2_i32_179 arg4
  let c1_i32_180 : BitVec 32 := 1#32
  let v76 : BitVec 32 := Scalar.addi v75 c1_i32_180
  let c1_i32_181 : BitVec 32 := 1#32
  let v77 : BitVec 32 := Scalar.shrsi v76 c1_i32_181
  let c2_i32_182 : BitVec 32 := 2#32
  let v78 : BitVec 32 := Scalar.shli v77 c2_i32_182
  let c1_i32_183 : BitVec 32 := 1#32
  let v79 : BitVec 32 := Scalar.andi v76 c1_i32_183
  let v80 : BitVec 32 := Scalar.ori v78 v79
  let c64_i32_185 : BitVec 32 := 64#32
  let v82 : BitVec 32 := Scalar.muli v80 c64_i32_185
  let v83 : Index := Scalar.indexCast v82
  let c0_188 : Index := 0#32
  ![0, 0, v83.toNat, 0]
def k0_off140 (k0_t40 : Fin k0_t40_loop.trips) : Fin 4 → Nat :=
  let c0_190 : Index := 0#32
  let c0_191 : Index := 0#32
  let c2_i32_179 : BitVec 32 := 2#32
  let c0_i32_152 : BitVec 32 := 0#32
  let c1_i32_154 : BitVec 32 := 1#32
  let arg4 : BitVec 32 := Scf.iv c0_i32_152 c1_i32_154 k0_t40
  let v75 : BitVec 32 := Scalar.muli c2_i32_179 arg4
  let c1_i32_180 : BitVec 32 := 1#32
  let v76 : BitVec 32 := Scalar.addi v75 c1_i32_180
  let c1_i32_181 : BitVec 32 := 1#32
  let v77 : BitVec 32 := Scalar.shrsi v76 c1_i32_181
  let c2_i32_182 : BitVec 32 := 2#32
  let v78 : BitVec 32 := Scalar.shli v77 c2_i32_182
  let c1_i32_183 : BitVec 32 := 1#32
  let v79 : BitVec 32 := Scalar.andi v76 c1_i32_183
  let v80 : BitVec 32 := Scalar.ori v78 v79
  let c2_i32_184 : BitVec 32 := 2#32
  let v81 : BitVec 32 := Scalar.addi v80 c2_i32_184
  let c64_i32_189 : BitVec 32 := 64#32
  let v86 : BitVec 32 := Scalar.muli v81 c64_i32_189
  let v87 : Index := Scalar.indexCast v86
  let c0_192 : Index := 0#32
  ![0, 0, v87.toNat, 0]
@[reducible] def k0_t41_loop : Scf.Loop 32 :=
  let c0_i32_156 : BitVec 32 := 0#32
  let c8_i32_157 : BitVec 32 := 8#32
  let v42 : BitVec 32 := Scalar.addi c0_i32_156 c8_i32_157
  let c1_i32_158 : BitVec 32 := 1#32
  ⟨c0_i32_156, v42, c1_i32_158⟩
def k0_off141 (k0_t41 : Fin k0_t41_loop.trips) : Fin 4 → Nat :=
  let c0 : Index := 0#32
  let c0_164 : Index := 0#32
  let c2_i32 : BitVec 32 := 2#32
  let c0_i32_156 : BitVec 32 := 0#32
  let c1_i32_158 : BitVec 32 := 1#32
  let arg4 : BitVec 32 := Scf.iv c0_i32_156 c1_i32_158 k0_t41
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c64_i32 : BitVec 32 := 64#32
  let v49 : BitVec 32 := Scalar.muli v47 c64_i32
  let v50 : Index := Scalar.indexCast v49
  let c0_165 : Index := 0#32
  ![0, 0, v50.toNat, 0]
def k0_off142 (k0_t41 : Fin k0_t41_loop.trips) : Fin 4 → Nat :=
  let c0_167 : Index := 0#32
  let c0_168 : Index := 0#32
  let c2_i32 : BitVec 32 := 2#32
  let c0_i32_156 : BitVec 32 := 0#32
  let c1_i32_158 : BitVec 32 := 1#32
  let arg4 : BitVec 32 := Scf.iv c0_i32_156 c1_i32_158 k0_t41
  let v43 : BitVec 32 := Scalar.muli c2_i32 arg4
  let c0_i32_160 : BitVec 32 := 0#32
  let v44 : BitVec 32 := Scalar.shrsi v43 c0_i32_160
  let c1_i32_161 : BitVec 32 := 1#32
  let v45 : BitVec 32 := Scalar.shli v44 c1_i32_161
  let c0_i32_162 : BitVec 32 := 0#32
  let v46 : BitVec 32 := Scalar.andi v43 c0_i32_162
  let v47 : BitVec 32 := Scalar.ori v45 v46
  let c1_i32_163 : BitVec 32 := 1#32
  let v48 : BitVec 32 := Scalar.addi v47 c1_i32_163
  let c64_i32_166 : BitVec 32 := 64#32
  let v53 : BitVec 32 := Scalar.muli v48 c64_i32_166
  let v54 : Index := Scalar.indexCast v53
  let c0_169 : Index := 0#32
  ![0, 0, v54.toNat, 0]
def k0_off143 (k0_t41 : Fin k0_t41_loop.trips) : Fin 4 → Nat :=
  let c0_215 : Index := 0#32
  let c0_216 : Index := 0#32
  let c2_i32_208 : BitVec 32 := 2#32
  let c0_i32_156 : BitVec 32 := 0#32
  let c1_i32_158 : BitVec 32 := 1#32
  let arg4 : BitVec 32 := Scf.iv c0_i32_156 c1_i32_158 k0_t41
  let v251 : BitVec 32 := Scalar.muli c2_i32_208 arg4
  let c1_i32_209 : BitVec 32 := 1#32
  let v252 : BitVec 32 := Scalar.addi v251 c1_i32_209
  let c0_i32_210 : BitVec 32 := 0#32
  let v253 : BitVec 32 := Scalar.shrsi v252 c0_i32_210
  let c1_i32_211 : BitVec 32 := 1#32
  let v254 : BitVec 32 := Scalar.shli v253 c1_i32_211
  let c0_i32_212 : BitVec 32 := 0#32
  let v255 : BitVec 32 := Scalar.andi v252 c0_i32_212
  let v256 : BitVec 32 := Scalar.ori v254 v255
  let c64_i32_214 : BitVec 32 := 64#32
  let v258 : BitVec 32 := Scalar.muli v256 c64_i32_214
  let v259 : Index := Scalar.indexCast v258
  let c0_217 : Index := 0#32
  ![0, 0, v259.toNat, 0]
def k0_off144 (k0_t41 : Fin k0_t41_loop.trips) : Fin 4 → Nat :=
  let c0_219 : Index := 0#32
  let c0_220 : Index := 0#32
  let c2_i32_208 : BitVec 32 := 2#32
  let c0_i32_156 : BitVec 32 := 0#32
  let c1_i32_158 : BitVec 32 := 1#32
  let arg4 : BitVec 32 := Scf.iv c0_i32_156 c1_i32_158 k0_t41
  let v251 : BitVec 32 := Scalar.muli c2_i32_208 arg4
  let c1_i32_209 : BitVec 32 := 1#32
  let v252 : BitVec 32 := Scalar.addi v251 c1_i32_209
  let c0_i32_210 : BitVec 32 := 0#32
  let v253 : BitVec 32 := Scalar.shrsi v252 c0_i32_210
  let c1_i32_211 : BitVec 32 := 1#32
  let v254 : BitVec 32 := Scalar.shli v253 c1_i32_211
  let c0_i32_212 : BitVec 32 := 0#32
  let v255 : BitVec 32 := Scalar.andi v252 c0_i32_212
  let v256 : BitVec 32 := Scalar.ori v254 v255
  let c1_i32_213 : BitVec 32 := 1#32
  let v257 : BitVec 32 := Scalar.addi v256 c1_i32_213
  let c64_i32_218 : BitVec 32 := 64#32
  let v262 : BitVec 32 := Scalar.muli v257 c64_i32_218
  let v263 : Index := Scalar.indexCast v262
  let c0_221 : Index := 0#32
  ![0, 0, v263.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S32x65536x3 : Shape := ⟨3, ![32, 65536, 3]⟩
abbrev S32x196608 : Shape := ⟨2, ![32, 196608]⟩
abbrev S_ : Shape := ⟨0, ![]⟩
abbrev S32 : Shape := ⟨1, ![32]⟩

abbrev nBuf : Space → Nat
  | .hbm => 15
  | .vmem => 0
  | .smem => 0
  | _ => 0

abbrev bufTy : (tb : Table) → Fin (tcTables nBuf tb) → BufTy
  | .hbm, ⟨0, _⟩ => ⟨S32x65536x3, .f32⟩
  | .hbm, ⟨1, _⟩ => ⟨S32x65536x3, .f32⟩
  | .hbm, ⟨2, _⟩ => ⟨S32x196608, .f32⟩
  | .hbm, ⟨3, _⟩ => ⟨S32x196608, .f32⟩
  | .hbm, ⟨4, _⟩ => ⟨S32x196608, .f32⟩
  | .hbm, ⟨5, _⟩ => ⟨S32x196608, .f32⟩
  | .hbm, ⟨6, _⟩ => ⟨S32x196608, .f32⟩
  | .hbm, ⟨7, _⟩ => ⟨S32x196608, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | _, _ => ⟨S32x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call2_v0 : Ref sig .tc := ⟨.hbm, 7, rfl⟩
abbrev main_call2_cst : Ref sig .tc := ⟨.hbm, 8, rfl⟩
abbrev main_call2_v1 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.Canon.lean ====
/-
  The sorting kernel written once, over any program's machine: the pure functions a chunk of 64 rows goes through
  (compare-exchange with a partner row or lane, row and lane chains), the body of each kind of loop, and the
  41 loops in order. Every operation is spelt as the printed kernel spells it, so that a printed body and the body
  here are the same program by unfolding.
-/
module

public import Idealize.ShloMosaic.Lib.Pipeline
public import Idealize.ShloMosaic.Lib.Scf
public import Idealize.ShloMosaic.PureOps

@[expose] public section

noncomputable section

namespace Cert.Proof.Canon

open Idealize.ShloMosaic Idealize.SL.Sem

variable {F : FTy → Type} [FloatOps F]

/-- A chunk: 64 rows of 128 lanes. -/
abbrev SC : Shape := ⟨2, ![64, 128]⟩
/-- A chunk as it is read from and stored to the block. -/
abbrev SCB : Shape := ⟨4, ![1, 1, 64, 128]⟩
/-- The block: 2048 rows of 128 lanes. -/
abbrev SX : Shape := ⟨4, ![1, 1, 2048, 128]⟩
/-- A chunk's rows in `g` groups of two halves of `dr` rows. -/
abbrev SG (g dr : Nat) : Shape := ⟨4, ![g, 2, dr, 128]⟩
/-- One half of each group. -/
abbrev SH (g dr : Nat) : Shape := ⟨4, ![g, 1, dr, 128]⟩
/-- One half of each group, the middle axis dropped. -/
abbrev SQ (g dr : Nat) : Shape := ⟨3, ![g, dr, 128]⟩

abbrev Chunk (F : FTy → Type) : Type := FVec F SC .f32

/-- The row number of each element of a chunk. -/
def iotaR : IVec SC 32 := iota .tc SC 32 [0] (by decide)
/-- The lane number of each element of a chunk. -/
def iotaL : IVec SC 32 := iota .tc SC 32 [1] (by decide)

/-- Where the counter `io` has the bit `d` clear. -/
def loMask (io : IVec SC 32) (d : BitVec 32) : IVec SC 1 := cmpi .eq (andi io (broadcast SC d)) (broadcast SC 0#32)

/-- The direction of a compare-exchange: one bit for the whole chunk, or one for each element. -/
inductive Up : Type
  | s (b : BitVec 1)
  | v (m : IVec SC 1)

/-- The direction as a mask over the chunk. -/
def Up.vec : Up → IVec SC 1
  | .s b => broadcastTo SC (broadcast SC b) (by decide)
  | .v m => m

/-- The first chunk where the direction is up, the second elsewhere. -/
def Up.sel : Up → Chunk F → Chunk F → Chunk F
  | .s b => Scalar.select b
  | .v m => select m

/-- Compare-exchange along an axis with the element `d` away, by two rotations. -/
def rollS (ax : Fin 2) (hr : SC.Rotates ax none) (io : IVec SC 32) (d s : BitVec 32) (up : Up) (x : Chunk F) : Chunk F :=
  let p : Chunk F := select (loMask io d) (dynamicRotate ax s none x hr) (dynamicRotate ax d none x hr)
  select (xori (xori up.vec (loMask io d)) (constantI SC 1 1#1)) (minimumf x p) (maximumf x p)

/-- Compare-exchange with the row `d` away. -/
def rollR (d s : BitVec 32) (up : Up) (x : Chunk F) : Chunk F := rollS 0 (by decide) iotaR d s up x
/-- Compare-exchange with the lane `d` away. -/
def rollL (d s : BitVec 32) (up : Up) (x : Chunk F) : Chunk F := rollS 1 (by decide) iotaL d s up x

/-- The shape relations a grouped compare-exchange reads. -/
structure Grp (g dr : Nat) : Prop where
  cg : SC.ShapeCasts (SG g dr)
  sl0 : (SG g dr).Slices ![0, 0, 0, 0] (SH g dr)
  sl1 : (SG g dr).Slices ![0, 1, 0, 0] (SH g dr)
  hq : (SH g dr).ShapeCasts (SQ g dr)
  qh : (SQ g dr).ShapeCasts (SH g dr)
  cat : Shape.Concatenates [SH g dr, SH g dr] (SG g dr) 1
  gc : (SG g dr).ShapeCasts SC

/-- The first halves of the groups. -/
def half0 {g dr : Nat} (H : Grp g dr) {α : Type} (x : SC.Idx → α) : (SQ g dr).Idx → α :=
  shapeCast (SQ g dr) (extractStridedSlice (SH g dr) ![0, 0, 0, 0] (shapeCast (SG g dr) x H.cg) H.sl0) H.hq
/-- The second halves of the groups. -/
def half1 {g dr : Nat} (H : Grp g dr) {α : Type} (x : SC.Idx → α) : (SQ g dr).Idx → α :=
  shapeCast (SQ g dr) (extractStridedSlice (SH g dr) ![0, 1, 0, 0] (shapeCast (SG g dr) x H.cg) H.sl1) H.hq
/-- Two halves put back together as a chunk. -/
def join {g dr : Nat} (H : Grp g dr) {α : Type} (lo hi : (SQ g dr).Idx → α) : SC.Idx → α :=
  shapeCast SC (concatenate (SG g dr) 1 [⟨SH g dr, shapeCast (SH g dr) lo H.qh⟩, ⟨SH g dr, shapeCast (SH g dr) hi H.qh⟩] H.cat) H.gc

/-- The direction's choice between two halves. -/
def Up.selH {g dr : Nat} (H : Grp g dr) : Up → FVec F (SQ g dr) .f32 → FVec F (SQ g dr) .f32 → FVec F (SQ g dr) .f32
  | .s b => Scalar.select b
  | .v m => select (half0 H m)

/-- Compare-exchange with the row `dr` away, by halves of groups. -/
def rout {g dr : Nat} (H : Grp g dr) (up : Up) (x : Chunk F) : Chunk F :=
  join H (up.selH H (minimumf (half0 H x) (half1 H x)) (maximumf (half0 H x) (half1 H x)))
    (up.selH H (maximumf (half0 H x) (half1 H x)) (minimumf (half0 H x) (half1 H x)))

theorem grp8 : Grp 4 8 := ⟨by decide, by decide, by decide, by decide, by decide, by decide, by decide⟩
theorem grp16 : Grp 2 16 := ⟨by decide, by decide, by decide, by decide, by decide, by decide, by decide⟩
theorem grp32 : Grp 1 32 := ⟨by decide, by decide, by decide, by decide, by decide, by decide, by decide⟩

/-- The row stages 2, 1, 0. -/
def rows3 (up : Up) (x : Chunk F) : Chunk F := rollR 1#32 63#32 up (rollR 2#32 62#32 up (rollR 4#32 60#32 up x))
/-- The row stages 5 to 0. -/
def rows6 (up : Up) (x : Chunk F) : Chunk F := rows3 up (rout grp8 up (rout grp16 up (rout grp32 up x)))

/-- The direction at level `kl` of chunk `c`. -/
def upAt (kl : Nat) (c : BitVec 32) : Up :=
  bif Nat.blt kl 11 then .s (Scalar.cmpi .eq (Scalar.andi c (BitVec.ofNat 32 (2 ^ (kl - 6)))) 0#32)
  else .v (loMask iotaL (BitVec.ofNat 32 (2 ^ (kl - 11))))

/-- The lane stages `n - 1` to 0. -/
def lanes (up : Up) : Nat → Chunk F → Chunk F
  | 0, x => x
  | n + 1, x => lanes up n (rollL (BitVec.ofNat 32 (2 ^ n)) (BitVec.ofNat 32 (128 - 2 ^ n)) up x)

/-- Compare-exchange of two chunks: what the first becomes. -/
def crossA (up : Up) (a b : Chunk F) : Chunk F := up.sel (minimumf a b) (maximumf a b)
/-- Compare-exchange of two chunks: what the second becomes. -/
def crossB (up : Up) (a b : Chunk F) : Chunk F := up.sel (maximumf a b) (minimumf a b)

/-- Levels 1 to 6 of one chunk. -/
def chain16 (c : BitVec 32) (x : Chunk F) : Chunk F :=
  rows6 (upAt 6 c)
    (rows3 (.v (loMask iotaR 32#32)) (rout grp8 (.v (loMask iotaR 32#32)) (rout grp16 (.v (loMask iotaR 32#32))
      (rows3 (.v (loMask iotaR 16#32)) (rout grp8 (.v (loMask iotaR 16#32))
        (rows3 (.v (loMask iotaR 8#32))
          (rollR 1#32 63#32 (.v (loMask iotaR 4#32)) (rollR 2#32 62#32 (.v (loMask iotaR 4#32))
            (rollR 1#32 63#32 (.v (loMask iotaR 2#32)) x)))))))))

/-! ## The loops -/

section Loops

variable {nD : Nat} {τ : Topo} {sig : RefSig} {Λ : Labels}

/-- A chunk's offsets in the block. -/
def offC (c : BitVec 32) : Fin 4 → Nat := ![0, 0, (Scalar.indexCast (Scalar.muli c 64#32)).toNat, 0]

theorem pos_SCB : 0 < SCB.numel := by decide
theorem cast_SCB_SC : SCB.ShapeCasts SC := by decide
theorem cast_SC_SCB : SC.ShapeCasts SCB := by decide

/-- A chunk lies in the block. -/
abbrev InB (c : BitVec 32) : Prop := ∀ a, offC c a + SCB.size a ≤ SX.size a

/-- Read a chunk of a block. -/
def ldc (M : Memref sig .tc .vmem SX .f32) (c : BitVec 32) (h : InB c) : Prog (TpuEff nD τ sig (Elt F) Λ .tc) (Chunk F) := do
  let v : Vec F SCB .f32 ← Prog.lift (.load M (Rect.unit (s := SX) (offC c) SCB.size h).toLoadRect (View.loadsAt_vmem pos_SCB))
  pure (shapeCast SC v cast_SCB_SC)

/-- Store a chunk of a block: the printed store reads the chunk first and drops what it read. -/
def stc (M : Memref sig .tc .vmem SX .f32) (c : BitVec 32) (h : InB c) (x : Chunk F) : Prog (TpuEff nD τ sig (Elt F) Λ .tc) PUnit := do
  let _ ← ldc (F := F) M c h
  Prog.lift (.store M (Rect.unit (s := SX) (offC c) SCB.size h) (shapeCast SCB x cast_SC_SCB) Finset.univ (View.stores_vmem_bits_univ pos_SCB rfl) (.inl rfl))

/-- The loops of 8 and of 16 trips. -/
@[reducible] def loop8 : Scf.Loop 32 := ⟨0#32, Scalar.addi 0#32 8#32, 1#32⟩
@[reducible] def loop16 : Scf.Loop 32 := ⟨0#32, Scalar.addi 0#32 16#32, 1#32⟩
theorem loop8_ok : loop8.OK := by decide
theorem loop16_ok : loop16.OK := by decide

/-- The pair a trip handles: the even one and the odd one. -/
def gA (k : Nat) : BitVec 32 := Scalar.muli 2#32 (Scf.iv 0#32 1#32 k)
def gB (k : Nat) : BitVec 32 := Scalar.addi (Scalar.muli 2#32 (Scf.iv 0#32 1#32 k)) 1#32

/-- The lower chunk of pair `g` whose chunks are `2 ^ b` apart, -/
def c1 (b : Nat) (g : BitVec 32) : BitVec 32 :=
  Scalar.ori (Scalar.shli (Scalar.shrsi g (BitVec.ofNat 32 b)) (BitVec.ofNat 32 (b + 1))) (Scalar.andi g (BitVec.ofNat 32 (2 ^ b - 1)))
/-- and the upper. -/
def c2 (b : Nat) (g : BitVec 32) : BitVec 32 := Scalar.addi (c1 b g) (BitVec.ofNat 32 (2 ^ b))
/-- The lowest chunk of group `g` of four chunks `2 ^ b` apart, -/
def q0 (b : Nat) (g : BitVec 32) : BitVec 32 :=
  Scalar.ori (Scalar.shli (Scalar.shrsi g (BitVec.ofNat 32 b)) (BitVec.ofNat 32 (b + 2))) (Scalar.andi g (BitVec.ofNat 32 (2 ^ b - 1)))
/-- and the one `n` up from it. -/
def qn (n b : Nat) (g : BitVec 32) : BitVec 32 := Scalar.addi (q0 b g) (BitVec.ofNat 32 (n * 2 ^ b))

theorem inb_c1A (b : Fin 5) (k : Fin loop8.trips) : InB (c1 b.val (gA k.val)) := by revert b k; decide +kernel
theorem inb_c2A (b : Fin 5) (k : Fin loop8.trips) : InB (c2 b.val (gA k.val)) := by revert b k; decide +kernel
theorem inb_c1B (b : Fin 5) (k : Fin loop8.trips) : InB (c1 b.val (gB k.val)) := by revert b k; decide +kernel
theorem inb_c2B (b : Fin 5) (k : Fin loop8.trips) : InB (c2 b.val (gB k.val)) := by revert b k; decide +kernel
theorem inb_q0 (b : Fin 4) (k : Fin loop8.trips) : InB (q0 b.val (Scf.iv 0#32 1#32 k.val)) := by revert b k; decide +kernel
theorem inb_qn (n : Fin 4) (b : Fin 4) (k : Fin loop8.trips) : InB (qn n.val b.val (Scf.iv 0#32 1#32 k.val)) := by revert n b k; decide +kernel
theorem inb_gA (k : Fin loop16.trips) : InB (gA k.val) := by revert k; decide +kernel
theorem inb_gB (k : Fin loop16.trips) : InB (gB k.val) := by revert k; decide +kernel

/-- Two chunks read, and both replaced. -/
def pairP (M : Memref sig .tc .vmem SX .f32) (a b : BitVec 32) (ha : InB a) (hb : InB b)
    (fa fb : Chunk F → Chunk F → Chunk F) : Prog (TpuEff nD τ sig (Elt F) Λ .tc) PUnit := do
  let x ← ldc M a ha
  let y ← ldc M b hb
  stc M a ha (fa x y)
  stc M b hb (fb x y)

/-- A loop over the 16 pairs of chunks `2 ^ b` apart, two a trip. -/
def pairLoop (b : Fin 5) (fa fb : BitVec 32 → BitVec 32 → Chunk F → Chunk F → Chunk F) (M : Memref sig .tc .vmem SX .f32) :
    Prog (TpuEff nD τ sig (Elt F) Λ .tc) Unit :=
  Scf.Loop.for loop8 loop8_ok ⟨⟩ fun k _ => do
    pairP M _ _ (inb_c1A b k) (inb_c2A b k) (fa (c1 b.val (gA k.val)) (c2 b.val (gA k.val))) (fb (c1 b.val (gA k.val)) (c2 b.val (gA k.val)))
    pairP M _ _ (inb_c1B b k) (inb_c2B b k) (fa (c1 b.val (gB k.val)) (c2 b.val (gB k.val))) (fb (c1 b.val (gB k.val)) (c2 b.val (gB k.val)))

/-- The first pass of level `kl`: `n` lane stages of both chunks, then their compare-exchange. -/
def firstA (kl n : Nat) (a b : BitVec 32) (x y : Chunk F) : Chunk F := crossA (upAt kl a) (lanes (upAt kl 0#32) n x) (lanes (upAt kl 0#32) n y)
def firstB (kl n : Nat) (a b : BitVec 32) (x y : Chunk F) : Chunk F := crossB (upAt kl a) (lanes (upAt kl 0#32) n x) (lanes (upAt kl 0#32) n y)
/-- A middle pass: the compare-exchange alone. -/
def midA (kl : Nat) (a b : BitVec 32) (x y : Chunk F) : Chunk F := crossA (upAt kl a) x y
def midB (kl : Nat) (a b : BitVec 32) (x y : Chunk F) : Chunk F := crossB (upAt kl a) x y
/-- The last pass: the compare-exchange, then the row stages of both chunks. -/
def lastA (kl : Nat) (a b : BitVec 32) (x y : Chunk F) : Chunk F := rows6 (upAt kl a) (crossA (upAt kl a) x y)
def lastB (kl : Nat) (a b : BitVec 32) (x y : Chunk F) : Chunk F := rows6 (upAt kl b) (crossB (upAt kl a) x y)

/-- A loop over the 8 groups of four chunks `2 ^ b` apart: two compare-exchanges of each. -/
def quadLoop (kl : Nat) (b : Fin 4) (M : Memref sig .tc .vmem SX .f32) : Prog (TpuEff nD τ sig (Elt F) Λ .tc) Unit :=
  Scf.Loop.for loop8 loop8_ok ⟨⟩ fun k _ => do
    let g := Scf.iv 0#32 1#32 k.val
    let up := upAt kl (q0 b.val g)
    let x0 ← ldc M _ (inb_q0 b k)
    let x1 ← ldc M _ (inb_qn 1 b k)
    let x2 ← ldc M _ (inb_qn 2 b k)
    let x3 ← ldc M _ (inb_qn 3 b k)
    stc (F := F) M _ (inb_q0 b k) (crossA up (crossA up x0 x2) (crossA up x1 x3))
    stc (F := F) M _ (inb_qn 1 b k) (crossB up (crossA up x0 x2) (crossA up x1 x3))
    stc (F := F) M _ (inb_qn 2 b k) (crossA up (crossB up x0 x2) (crossB up x1 x3))
    stc (F := F) M _ (inb_qn 3 b k) (crossB up (crossB up x0 x2) (crossB up x1 x3))

/-- What the first loop makes of a pair of chunks: levels 1 to 6 of each, then level 7. -/
def sweepA (a b : BitVec 32) (x y : Chunk F) : Chunk F := rows6 (upAt 7 a) (crossA (upAt 7 a) (chain16 a x) (chain16 b y))
def sweepB (a b : BitVec 32) (x y : Chunk F) : Chunk F := rows6 (upAt 7 b) (crossB (upAt 7 a) (chain16 a x) (chain16 b y))

/-- The first loop: from the block read to the block written. -/
def sweepLoop (M0 M1 : Memref sig .tc .vmem SX .f32) : Prog (TpuEff nD τ sig (Elt F) Λ .tc) Unit :=
  Scf.Loop.for loop16 loop16_ok ⟨⟩ fun k _ => do
    let x ← ldc M0 _ (inb_gA k)
    let y ← ldc M0 _ (inb_gB k)
    stc (F := F) M1 _ (inb_gA k) (sweepA (gA k.val) (gB k.val) x y)
    stc (F := F) M1 _ (inb_gB k) (sweepB (gA k.val) (gB k.val) x y)

/-- A pass over the block written: one loop over its pairs, or over its groups of four chunks. -/
inductive Pass : Type
  | first (kl n : Nat) (b : Fin 5)
  | mid (kl : Nat) (b : Fin 5)
  | last (kl : Nat)
  | quad (kl : Nat) (b : Fin 4)

/-- The pass as a loop. -/
def Pass.prog (M : Memref sig .tc .vmem SX .f32) : Pass → Prog (TpuEff nD τ sig (Elt F) Λ .tc) Unit
  | .first kl n b => pairLoop (F := F) b (firstA kl n) (firstB kl n) M
  | .mid kl b => pairLoop (F := F) b (midA kl) (midB kl) M
  | .last kl => pairLoop (F := F) 0 (lastA kl) (lastB kl) M
  | .quad kl b => quadLoop (F := F) kl b M

/-- Passes in order. -/
def runPasses (M : Memref sig .tc .vmem SX .f32) : List Pass → Prog (TpuEff nD τ sig (Elt F) Λ .tc) PUnit
  | [] => pure ⟨⟩
  | p :: ps => do
    p.prog (F := F) M
    runPasses M ps

/-- The passes of levels 8 to 18. -/
def passes : List Pass :=
  [ .first 8 0 1, .last 8,
    .first 9 0 2, .mid 9 1, .last 9,
    .first 10 0 3, .quad 10 1, .last 10,
    .first 11 0 4, .quad 11 2, .mid 11 1, .last 11,
    .first 12 1 4, .quad 12 2, .mid 12 1, .last 12,
    .first 13 2 4, .quad 13 2, .mid 13 1, .last 13,
    .first 14 3 4, .quad 14 2, .mid 14 1, .last 14,
    .first 15 4 4, .quad 15 2, .mid 15 1, .last 15,
    .first 16 5 4, .quad 16 2, .mid 16 1, .last 16,
    .first 17 6 4, .quad 17 2, .mid 17 1, .last 17,
    .first 18 7 4, .quad 18 2, .mid 18 1, .last 18 ]

/-- The sorting kernel: the first loop, then the passes. -/
def kern (M0 M1 : Memref sig .tc .vmem SX .f32) : Prog (TpuEff nD τ sig (Elt F) Λ .tc) PUnit := do
  sweepLoop (F := F) M0 M1
  runPasses (F := F) M1 passes

end Loops

end Cert.Proof.Canon

end
-- ==== Proof.Run.lean ====
/-
  The sorting kernel as a function of the block: what each loop does to the 32 chunks of the block, and the theorem
  that the program run from a block leaves that function of it. Over any float operations and any machine.
-/
module

public import proofs.«01_k».proof.Proof.Canon
public import Idealize.ShloMosaic.Lib.WritesUnit
public import Idealize.ShloMosaic.Lib.Pipeline.Value
public import Idealize.ShloMosaic.Lib.Pipeline.FrameBody
public import Idealize.ShloMosaic.Lib.Tactic

@[expose] public section

noncomputable section

namespace Cert.Proof.Canon

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type}

/-! ## A block as chunks -/

/-- The block's 32 chunks. -/
abbrev Arr (F : FTy → Type) : Type := Fin 32 → Chunk F

theorem inb_rc (c : Fin 32) : ∀ a, (![0, 0, 64 * c.val, 0] : Fin 4 → Nat) a + SCB.size a ≤ SX.size a := by revert c; decide
/-- The rectangle of chunk `c`. -/
abbrev rc (c : Fin 32) : Rect SX := Rect.unit (s := SX) ![0, 0, 64 * c.val, 0] SCB.size (inb_rc c)

/-- The chunks of a block. -/
def arrOf (X : SX.Idx → Elt F .f32) : Arr F := fun c => shapeCast SC (fun x : SCB.Idx => X ((rc c).idx x)) cast_SCB_SC

/-- The chunk number a 32-bit word names. -/
def ci (c : BitVec 32) : Fin 32 := ⟨c.toNat % 32, Nat.mod_lt _ (by decide)⟩

/-- A word below 32 has the offsets of its chunk. -/
theorem offC_eq {c : BitVec 32} (hc : c.toNat < 32) : offC c = ![0, 0, 64 * (ci c).val, 0] := by
  obtain ⟨n, rfl⟩ : ∃ n : Fin 32, c = BitVec.ofNat 32 n.val := ⟨⟨c.toNat, hc⟩, by simp⟩
  clear hc
  revert n
  decide +kernel

section Access

variable {sig : RefSig}

/-- What a load of chunk `c` gives. -/
theorem ld_arr (M : Memref sig .tc .vmem SX .f32) {c : BitVec 32} (h : InB c) (hc : c.toNat < 32) (f : M.view.ty.Contents (Elt F)) :
    shapeCast SC (M.view.readAt (Elt F) (Rect.unit (s := SX) (offC c) SCB.size h).toLoadRect f : SCB.Idx → Elt F .f32) cast_SCB_SC
      = arrOf (M.view.read (Elt F) f) (ci c) := by
  have key : ∀ (off : Fin 4 → Nat) (h : ∀ a, off a + SCB.size a ≤ SX.size a), off = ![0, 0, 64 * (ci c).val, 0] →
      shapeCast SC (M.view.readAt (Elt F) (Rect.unit (s := SX) off SCB.size h).toLoadRect f : SCB.Idx → Elt F .f32) cast_SCB_SC
        = arrOf (M.view.read (Elt F) f) (ci c) := by
    intro off h e
    subst e
    rfl
  exact key _ h (offC_eq hc)

/-- Two chunks share no row. -/
theorem rc_idx_row (c : Fin 32) (x : SCB.Idx) : ((rc c).idx x 2).val = 64 * c.val + (x 2).val := by
  show 64 * c.val + 1 * (x 2).val = _
  omega

/-- An element off the rectangle stored through keeps its contents. -/
theorem read_store_ne (v : View sig .tc .vmem SX .f32) (f : v.ty.Contents (Elt F)) (off : Fin 4 → Nat) (h : ∀ a, off a + SCB.size a ≤ SX.size a)
    (w : SCB.Idx → Elt F .f32) (y : SX.Idx) (hy : (y 2).val < off 2 ∨ off 2 + 64 ≤ (y 2).val) :
    v.read (Elt F) ((v.slice (Rect.unit (s := SX) off SCB.size h)).write (Elt F) f w Finset.univ) y = v.read (Elt F) f y :=
  View.read_writes_cons_unit_of_not_mem (off' := off) v f h w [] y rfl (2 : Fin 4) hy

/-- What a store of chunk `c` leaves. -/
theorem st_arr (M : Memref sig .tc .vmem SX .f32) {c : BitVec 32} (h : InB c) (hc : c.toNat < 32) (f : M.view.ty.Contents (Elt F)) (x : Chunk F) :
    arrOf (M.view.read (Elt F) ((M.access (Rect.unit (s := SX) (offC c) SCB.size h)).write (Elt F) f (shapeCast SCB x cast_SC_SCB) Finset.univ))
      = Function.update (arrOf (M.view.read (Elt F) f)) (ci c) x := by
  have key : ∀ (off : Fin 4 → Nat) (h : ∀ a, off a + SCB.size a ≤ SX.size a), off = ![0, 0, 64 * (ci c).val, 0] →
      arrOf (M.view.read (Elt F) ((M.access (Rect.unit (s := SX) off SCB.size h)).write (Elt F) f (shapeCast SCB x cast_SC_SCB) Finset.univ))
        = Function.update (arrOf (M.view.read (Elt F) f)) (ci c) x := by
    intro off h e
    subst e
    funext c'
    by_cases hcc : c' = ci c
    · subst hcc
      rw [Function.update_self]
      have : (fun y : SCB.Idx => M.view.read (Elt F) ((M.access (rc (ci c))).write (Elt F) f (shapeCast SCB x cast_SC_SCB) Finset.univ) ((rc (ci c)).idx y))
          = shapeCast SCB x cast_SC_SCB := by
        funext y
        exact View.read_writes_cons_emb M.view f (rc (ci c)) (shapeCast SCB x cast_SC_SCB) [] y
      unfold arrOf
      erw [this]
      exact shapeCast_shapeCast x cast_SC_SCB cast_SCB_SC
    · rw [Function.update_of_ne hcc]
      refine congrArg (fun z => shapeCast SC z cast_SCB_SC) (funext fun y => ?_)
      refine read_store_ne M.view f _ _ (shapeCast SCB x cast_SC_SCB) ((rc c').idx y) ?_
      rw [rc_idx_row]
      have hy : (y 2).val < 64 := (y 2).isLt
      have hne : c'.val ≠ (ci c).val := fun e => hcc (Fin.ext e)
      have e2 : (![0, 0, 64 * (ci c).val, 0] : Fin 4 → Nat) 2 = 64 * (ci c).val := rfl
      rw [e2]
      omega
  exact key _ h (offC_eq hc)

end Access

/-! ## What each loop does to the chunks -/

/-- The first `n` trips of a loop, in order. -/
def iterN {α : Type} (step : Nat → α → α) : Nat → α → α
  | 0, A => A
  | n + 1, A => step n (iterN step n A)

variable [FloatOps F]

/-- Chunks `a` and `b` replaced, `a` first. -/
def putPair (a b : BitVec 32) (x y : Chunk F) (A : Arr F) : Arr F :=
  Function.update (Function.update A (ci a) x) (ci b) y

/-- A pair of chunks replaced by functions of the two. -/
def pairT (a b : BitVec 32) (fa fb : Chunk F → Chunk F → Chunk F) (A : Arr F) : Arr F :=
  putPair a b (fa (A (ci a)) (A (ci b))) (fb (A (ci a)) (A (ci b))) A

/-- One trip over two pairs. -/
def pairStep (b : Nat) (fa fb : BitVec 32 → BitVec 32 → Chunk F → Chunk F → Chunk F) (k : Nat) (A : Arr F) : Arr F :=
  pairT (c1 b (gB k)) (c2 b (gB k)) (fa (c1 b (gB k)) (c2 b (gB k))) (fb (c1 b (gB k)) (c2 b (gB k)))
    (pairT (c1 b (gA k)) (c2 b (gA k)) (fa (c1 b (gA k)) (c2 b (gA k))) (fb (c1 b (gA k)) (c2 b (gA k))) A)

/-- Four chunks replaced by functions of the four. -/
def quadT (kl : Nat) (w0 w1 w2 w3 : BitVec 32) (A : Arr F) : Arr F :=
  putPair w2 w3
    (crossA (upAt kl w0) (crossB (upAt kl w0) (A (ci w0)) (A (ci w2))) (crossB (upAt kl w0) (A (ci w1)) (A (ci w3))))
    (crossB (upAt kl w0) (crossB (upAt kl w0) (A (ci w0)) (A (ci w2))) (crossB (upAt kl w0) (A (ci w1)) (A (ci w3))))
    (putPair w0 w1
      (crossA (upAt kl w0) (crossA (upAt kl w0) (A (ci w0)) (A (ci w2))) (crossA (upAt kl w0) (A (ci w1)) (A (ci w3))))
      (crossB (upAt kl w0) (crossA (upAt kl w0) (A (ci w0)) (A (ci w2))) (crossA (upAt kl w0) (A (ci w1)) (A (ci w3))))
      A)

/-- One trip over a group of four chunks. -/
def quadStep (kl b k : Nat) (A : Arr F) : Arr F :=
  quadT kl (q0 b (Scf.iv 0#32 1#32 k)) (qn 1 b (Scf.iv 0#32 1#32 k)) (qn 2 b (Scf.iv 0#32 1#32 k)) (qn 3 b (Scf.iv 0#32 1#32 k)) A

/-- One trip of the first loop, reading `A0`. -/
def sweepStep (A0 : Arr F) (k : Nat) (A : Arr F) : Arr F :=
  putPair (gA k) (gB k) (sweepA (gA k) (gB k) (A0 (ci (gA k))) (A0 (ci (gB k))))
    (sweepB (gA k) (gB k) (A0 (ci (gA k))) (A0 (ci (gB k)))) A

/-- What a pass does to the chunks. -/
def Pass.fn : Pass → Arr F → Arr F
  | .first kl n b => iterN (pairStep b.val (firstA kl n) (firstB kl n)) 8
  | .mid kl b => iterN (pairStep b.val (midA kl) (midB kl)) 8
  | .last kl => iterN (pairStep 0 (lastA kl) (lastB kl)) 8
  | .quad kl b => iterN (quadStep kl b.val) 8

/-- What passes in order do. -/
def passesFn : List Pass → Arr F → Arr F
  | [], A => A
  | p :: ps, A => passesFn ps (p.fn A)

/-- What the first loop makes of the chunks, whatever the block it writes held. -/
def sweepFn (A0 : Arr F) : Arr F := iterN (sweepStep A0) 16 A0

/-- What the sorting kernel makes of the chunks. -/
def kernFn (A0 : Arr F) : Arr F := passesFn passes (sweepFn A0)

theorem ci_g : ∀ k : Fin 16, (ci (gA k.val)).val = 2 * k.val ∧ (ci (gB k.val)).val = 2 * k.val + 1 := by decide +kernel

/-- After `n` trips of the first loop the chunks below `2 n` do not depend on what the block held. -/
theorem sweep_indep (A0 A A' : Arr F) : ∀ n ≤ 16, ∀ c : Fin 32, c.val < 2 * n → iterN (sweepStep A0) n A c = iterN (sweepStep A0) n A' c
  | 0, _, c, h => absurd h (Nat.not_lt_zero _)
  | n + 1, hn, c, h => by
    have hg := ci_g ⟨n, hn⟩
    simp only at hg
    show putPair (gA n) (gB n) _ _ _ c = putPair (gA n) (gB n) _ _ _ c
    unfold putPair
    by_cases hB : c = ci (gB n)
    · subst hB; rw [Function.update_self, Function.update_self]
    · rw [Function.update_of_ne hB, Function.update_of_ne hB]
      by_cases hA : c = ci (gA n)
      · subst hA; rw [Function.update_self, Function.update_self]
      · rw [Function.update_of_ne hA, Function.update_of_ne hA]
        refine sweep_indep A0 A A' n (Nat.le_of_succ_le hn) c ?_
        have h1 : c.val ≠ 2 * n + 1 := fun e => hB (Fin.ext (e.trans hg.2.symm))
        have h2 : c.val ≠ 2 * n := fun e => hA (Fin.ext (e.trans hg.1.symm))
        omega

/-- The first loop from any block written. -/
theorem sweep_eq (A0 A : Arr F) : iterN (sweepStep A0) 16 A = sweepFn A0 :=
  funext fun c => sweep_indep A0 A A0 16 (le_refl _) c (by have := c.isLt; omega)

theorem trips8 : loop8.trips = 8 := by decide +kernel
theorem lt_c1A (b : Fin 5) (k : Fin loop8.trips) : (c1 b.val (gA k.val)).toNat < 32 := by revert b k; decide +kernel
theorem lt_c2A (b : Fin 5) (k : Fin loop8.trips) : (c2 b.val (gA k.val)).toNat < 32 := by revert b k; decide +kernel
theorem lt_c1B (b : Fin 5) (k : Fin loop8.trips) : (c1 b.val (gB k.val)).toNat < 32 := by revert b k; decide +kernel
theorem lt_c2B (b : Fin 5) (k : Fin loop8.trips) : (c2 b.val (gB k.val)).toNat < 32 := by revert b k; decide +kernel
theorem lt_q0 (b : Fin 4) (k : Fin loop8.trips) : (q0 b.val (Scf.iv 0#32 1#32 k.val)).toNat < 32 := by revert b k; decide +kernel
theorem lt_qn (n b : Fin 4) (k : Fin loop8.trips) : (qn n.val b.val (Scf.iv 0#32 1#32 k.val)).toNat < 32 := by revert n b k; decide +kernel
theorem lt_gA (k : Fin loop16.trips) : (gA k.val).toNat < 32 := by revert k; decide +kernel
theorem lt_gB (k : Fin loop16.trips) : (gB k.val).toNat < 32 := by revert k; decide +kernel

/-! ## The program run -/

section Run

variable {nD : Nat} {τ : Topo} {sig : RefSig} {Λ : Labels}
variable {Ix : Type} [DecidableEq Ix] {Name : Type} [DecidableEq Name] {U : Type} [URA U] {Lvl : Type} [Preorder Lvl]
variable (defs : Defs nD τ sig (Elt F) Λ) (𝒱 : Variants) (c : Dev nD) (E : Set Name)

local notation "𝕄" => MT nD τ sig Ix (Elt F) Name U Lvl

/-- The block `M` held whole, with chunks `A`. -/
def ptA (M : Memref sig .tc .vmem SX .f32) (A : Arr F) : sProp 𝕄 :=
  iprop(∃ f : Buf (Elt F) (M.view.loc (c : Thread nD τ)), ⌜arrOf (M.view.read (Elt F) f) = A⌝ ∗ (M.view.loc (c : Thread nD τ) ↦{fullShare} f))

variable {defs 𝒱 c E}

/-- Reading a chunk. -/
theorem wp_ldc {M : Memref sig .tc .vmem SX .f32} {A : Arr F} {w : BitVec 32} {h : InB w} (hw : w.toNat < 32) {α : Type}
    {k : Chunk F → Prog (TpuEff nD τ sig (Elt F) Λ .tc) α} {Q : α → sProp 𝕄} :
    (ptA c M A : sProp 𝕄) ⊢ iprop((ptA c M A -∗ wp frame (wpE defs 𝒱 (c : Thread nD τ) none) E (k (A (ci w))) Q)
      -∗ wp frame (wpE defs 𝒱 (c : Thread nD τ) none) E (ldc M w h >>= k) Q) := by
  unfold ptA
  iintro ⟨%f, %hf, H⟩ Hk
  have e : (ldc M w h >>= k : Prog (TpuEff nD τ sig (Elt F) Λ .tc) α)
      = .op (.load M (Rect.unit (s := SX) (offC w) SCB.size h).toLoadRect (View.loadsAt_vmem pos_SCB)) (fun v => k (shapeCast SC v cast_SCB_SC)) := rfl
  rw [e]
  iapply (wp_load 𝒱 (c : Thread nD τ) none E (S := Finset.univ) (Finset.subset_univ _)) $$ H
  iintro H
  rw [ld_arr M h hw f, hf]
  iapply Hk
  iexists f
  isplitr
  · ipureintro; exact hf
  · iexact H

/-- A store through a rectangle of a block held whole. -/
theorem wp_store_block {M : Memref sig .tc .vmem SX .f32} (r : Rect SX) (w : r.shape.Idx → Elt F .f32) (hx : (M.access r).Stores Finset.univ)
    (hm : (Finset.univ : Finset r.shape.Idx) = Finset.univ ∨ ∀ a, r.stride a = 1) (f : Buf (Elt F) (M.view.loc (c : Thread nD τ))) {α : Type}
    (k : PUnit → Prog (TpuEff nD τ sig (Elt F) Λ .tc) α) (Q : α → sProp 𝕄) :
    (M.view.loc (c : Thread nD τ) ↦{fullShare} f : sProp 𝕄)
      ⊢ iprop(((M.view.loc (c : Thread nD τ) ↦{fullShare} ((M.access r).write (Elt F) f w Finset.univ : Buf (Elt F) (M.view.loc (c : Thread nD τ))))
          -∗ wp frame (wpE defs 𝒱 (c : Thread nD τ) none) E (k ⟨⟩) Q)
        -∗ wp frame (wpE defs 𝒱 (c : Thread nD τ) none) E (.op (.store M r w Finset.univ hx hm) k) Q) :=
  wp_store 𝒱 (c : Thread nD τ) none E (m := M) (r := r) (w := w) (Mk := Finset.univ) (hx := hx) (hm := hm) (k := k) (f := f) (S := Finset.univ) (Finset.subset_univ _)

/-- Storing a chunk. -/
theorem wp_stc {M : Memref sig .tc .vmem SX .f32} {A : Arr F} {w : BitVec 32} {h : InB w} (hw : w.toNat < 32) {x : Chunk F} {α : Type}
    {k : PUnit → Prog (TpuEff nD τ sig (Elt F) Λ .tc) α} {Q : α → sProp 𝕄} :
    (ptA c M A : sProp 𝕄) ⊢ iprop((ptA c M (Function.update A (ci w) x) -∗ wp frame (wpE defs 𝒱 (c : Thread nD τ) none) E (k ⟨⟩) Q)
      -∗ wp frame (wpE defs 𝒱 (c : Thread nD τ) none) E (stc M w h x >>= k) Q) := by
  iintro H Hk
  have e : (stc M w h x >>= k : Prog (TpuEff nD τ sig (Elt F) Λ .tc) α)
      = ldc M w h >>= fun _ => .op (.store M (Rect.unit (s := SX) (offC w) SCB.size h) (shapeCast SCB x cast_SC_SCB) Finset.univ (View.stores_vmem_bits_univ pos_SCB rfl) (.inl rfl)) k := rfl
  rw [e]
  iapply (wp_ldc hw) $$ H
  unfold ptA
  iintro ⟨%f, %hf, H⟩
  have hf' := st_arr M h hw f x
  rw [hf] at hf'
  generalize hg : (M.access (Rect.unit (s := SX) (offC w) SCB.size h)).write (Elt F) f (shapeCast SCB x cast_SC_SCB) Finset.univ = g at hf'
  have hst := wp_store_block (defs := defs) (𝒱 := 𝒱) (c := c) (E := E) (Ix := Ix) (Name := Name) (U := U) (Lvl := Lvl) (M := M) (Rect.unit (s := SX) (offC w) SCB.size h) (shapeCast SCB x cast_SC_SCB)
    (View.stores_vmem_bits_univ pos_SCB rfl) (.inl rfl) f k Q
  rw [hg] at hst
  iapply hst $$ H
  iintro H
  iapply Hk
  iexists g
  isplitr
  · ipureintro; exact hf'
  · iexact H

/-- Storing a chunk, last. -/
theorem wp_stc' {M : Memref sig .tc .vmem SX .f32} {A : Arr F} {w : BitVec 32} {h : InB w} (hw : w.toNat < 32) {x : Chunk F} {Q : PUnit → sProp 𝕄} :
    (ptA c M A : sProp 𝕄) ⊢ iprop((ptA c M (Function.update A (ci w) x) -∗ Q ⟨⟩)
      -∗ wp frame (wpE defs 𝒱 (c : Thread nD τ) none) E (stc M w h x) Q) := by
  iintro H Hk
  rw [← bind_pure (stc M w h x)]
  iapply (wp_stc hw) $$ H
  iintro H
  rw [show (Pure.pure PUnit.unit : Prog (TpuEff nD τ sig (Elt F) Λ .tc) PUnit) = .ret ⟨⟩ from rfl, wp_ret]
  imodintro
  iapply Hk $$ H

/-- A pair of chunks replaced. -/
theorem wp_pairP {M : Memref sig .tc .vmem SX .f32} {A : Arr F} {a b : BitVec 32} {ha : InB a} {hb : InB b} (la : a.toNat < 32) (lb : b.toNat < 32)
    {fa fb : Chunk F → Chunk F → Chunk F} {Q : PUnit → sProp 𝕄} :
    (ptA c M A : sProp 𝕄) ⊢ iprop((ptA c M (pairT a b fa fb A) -∗ Q ⟨⟩)
      -∗ wp frame (wpE defs 𝒱 (c : Thread nD τ) none) E (pairP M a b ha hb fa fb) Q) := by
  iintro H Hk
  unfold pairP
  iapply (wp_ldc la) $$ H
  iintro H
  iapply (wp_ldc lb) $$ H
  iintro H
  iapply (wp_stc la) $$ H
  iintro H
  iapply (wp_stc' lb) $$ H
  iexact Hk

/-- A loop whose trips take the chunks through `step`. -/
theorem wp_loopA {M : Memref sig .tc .vmem SX .f32} {A : Arr F} {l : Scf.Loop 32} {hok : l.OK} {step : Nat → Arr F → Arr F}
    {body : Fin l.trips → Unit → Prog (TpuEff nD τ sig (Elt F) Λ .tc) Unit} (R : sProp 𝕄)
    (hbody : ∀ (k : Fin l.trips) (A : Arr F), iprop(R ∗ ptA c M A)
      ⊢ wp frame (wpE defs 𝒱 (c : Thread nD τ) none) E (body k ⟨⟩) (fun _ => iprop(R ∗ ptA c M (step k.val A)))) {Q : Unit → sProp 𝕄} :
    iprop(R ∗ ptA c M A) ⊢ iprop((R ∗ ptA c M (iterN step l.trips A) -∗ Q ⟨⟩)
      -∗ wp frame (wpE defs 𝒱 (c : Thread nD τ) none) E (Scf.Loop.for l hok ⟨⟩ body) Q) := by
  iintro H Hk
  iapply (Scf.wp_for frame (wpE defs 𝒱 (c : Thread nD τ) none) E l.lb l.ub l.st hok ⟨⟩ body
    (fun n _ => iprop(R ∗ ptA c M (iterN step n A))) (fun k _ => hbody k _))
  isplitl [H]
  · iexact H
  · iintro %_ H
    iapply Hk $$ H

/-- A loop over pairs. -/
theorem wp_pairLoop {M : Memref sig .tc .vmem SX .f32} {A : Arr F} (b : Fin 5) (fa fb : BitVec 32 → BitVec 32 → Chunk F → Chunk F → Chunk F) {Q : Unit → sProp 𝕄} :
    (ptA c M A : sProp 𝕄) ⊢ iprop((ptA c M (iterN (pairStep b.val fa fb) 8 A) -∗ Q ⟨⟩)
      -∗ wp frame (wpE defs 𝒱 (c : Thread nD τ) none) E (pairLoop b fa fb M) Q) := by
  iintro H Hk
  unfold pairLoop
  iapply (wp_loopA (step := pairStep b.val fa fb) (M := M) iprop(emp) (fun k A => ?_)) $$ [H]
  · iintro ⟨-, H⟩
    rw [wp_bind]
    iapply (wp_pairP (lt_c1A b k) (lt_c2A b k)) $$ H
    iintro H
    iapply (wp_pairP (lt_c1B b k) (lt_c2B b k)) $$ H
    iintro H
    isplitr
    · iempintro
    · iexact H
  · isplitr
    · iempintro
    · iexact H
  · iintro ⟨-, H⟩
    rw [trips8]
    iapply Hk $$ H

/-- A loop over groups of four chunks. -/
theorem wp_quadLoop {M : Memref sig .tc .vmem SX .f32} {A : Arr F} (kl : Nat) (b : Fin 4) {Q : Unit → sProp 𝕄} :
    (ptA c M A : sProp 𝕄) ⊢ iprop((ptA c M (iterN (quadStep kl b.val) 8 A) -∗ Q ⟨⟩)
      -∗ wp frame (wpE defs 𝒱 (c : Thread nD τ) none) E (quadLoop kl b M) Q) := by
  iintro H Hk
  unfold quadLoop
  iapply (wp_loopA (step := quadStep kl b.val) (M := M) iprop(emp) (fun k A => ?_)) $$ [H]
  · iintro ⟨-, H⟩
    iapply (wp_ldc (lt_q0 b k)) $$ H
    iintro H
    iapply (wp_ldc (lt_qn 1 b k)) $$ H
    iintro H
    iapply (wp_ldc (lt_qn 2 b k)) $$ H
    iintro H
    iapply (wp_ldc (lt_qn 3 b k)) $$ H
    iintro H
    iapply (wp_stc (lt_q0 b k)) $$ H
    iintro H
    iapply (wp_stc (lt_qn 1 b k)) $$ H
    iintro H
    iapply (wp_stc (lt_qn 2 b k)) $$ H
    iintro H
    iapply (wp_stc' (lt_qn 3 b k)) $$ H
    iintro H
    isplitr
    · iempintro
    · iexact H
  · isplitr
    · iempintro
    · iexact H
  · iintro ⟨-, H⟩
    rw [trips8]
    iapply Hk $$ H

/-- The first loop: the block read is kept, the block written is a function of it. -/
theorem wp_sweepLoop {M0 M1 : Memref sig .tc .vmem SX .f32} {A0 A : Arr F} {Q : Unit → sProp 𝕄} :
    (iprop(ptA c M0 A0 ∗ ptA c M1 A) : sProp 𝕄) ⊢ iprop((ptA c M0 A0 ∗ ptA c M1 (sweepFn A0) -∗ Q ⟨⟩)
      -∗ wp frame (wpE defs 𝒱 (c : Thread nD τ) none) E (sweepLoop M0 M1) Q) := by
  iintro H Hk
  unfold sweepLoop
  iapply (wp_loopA (step := sweepStep A0) (M := M1) iprop(ptA c M0 A0) (fun k A => ?_)) $$ H
  · iintro ⟨H0, H⟩
    iapply (wp_ldc (lt_gA k)) $$ H0
    iintro H0
    iapply (wp_ldc (lt_gB k)) $$ H0
    iintro H0
    iapply (wp_stc (lt_gA k)) $$ H
    iintro H
    iapply (wp_stc' (lt_gB k)) $$ H
    iintro H
    isplitl [H0]
    · iexact H0
    · iexact H
  · iintro H
    rw [show iterN (sweepStep A0) loop16.trips A = sweepFn A0 from sweep_eq A0 A]
    iapply Hk $$ H

/-- A pass. -/
theorem wp_pass {M : Memref sig .tc .vmem SX .f32} {A : Arr F} (p : Pass) {Q : Unit → sProp 𝕄} :
    (ptA c M A : sProp 𝕄) ⊢ iprop((ptA c M (p.fn A) -∗ Q ⟨⟩)
      -∗ wp frame (wpE defs 𝒱 (c : Thread nD τ) none) E (p.prog (F := F) M) Q) := by
  cases p with
  | first kl n b => exact wp_pairLoop b (firstA kl n) (firstB kl n)
  | mid kl b => exact wp_pairLoop b (midA kl) (midB kl)
  | last kl => exact wp_pairLoop 0 (lastA kl) (lastB kl)
  | quad kl b => exact wp_quadLoop kl b

/-- Passes in order. -/
theorem wp_runPasses {M : Memref sig .tc .vmem SX .f32} {Q : PUnit → sProp 𝕄} : ∀ (ps : List Pass) (A : Arr F),
    (ptA c M A : sProp 𝕄) ⊢ iprop((ptA c M (passesFn ps A) -∗ Q ⟨⟩)
      -∗ wp frame (wpE defs 𝒱 (c : Thread nD τ) none) E (runPasses (F := F) M ps) Q)
  | [], A => by
    iintro H Hk
    unfold runPasses passesFn
    rw [show (Pure.pure PUnit.unit : Prog (TpuEff nD τ sig (Elt F) Λ .tc) PUnit) = .ret ⟨⟩ from rfl, wp_ret]
    imodintro
    iapply Hk $$ H
  | p :: ps, A => by
    iintro H Hk
    unfold runPasses passesFn
    rw [wp_bind]
    iapply (wp_pass p) $$ H
    iintro H
    iapply (wp_runPasses ps (p.fn A)) $$ H
    iexact Hk

/-- The sorting kernel run: the block read is kept, the block written holds `kernFn` of it. -/
theorem wp_kern {M0 M1 : Memref sig .tc .vmem SX .f32} {A0 A : Arr F} {Q : PUnit → sProp 𝕄} :
    (iprop(ptA c M0 A0 ∗ ptA c M1 A) : sProp 𝕄) ⊢ iprop((ptA c M0 A0 ∗ ptA c M1 (kernFn A0) -∗ Q ⟨⟩)
      -∗ wp frame (wpE defs 𝒱 (c : Thread nD τ) none) E (kern (F := F) M0 M1) Q) := by
  iintro H Hk
  unfold kern
  rw [wp_bind]
  iapply wp_sweepLoop $$ H
  iintro ⟨H0, H⟩
  iapply (wp_runPasses passes (sweepFn A0)) $$ H
  iintro H
  iapply Hk
  isplitl [H0]
  · iexact H0
  · iexact H

end Run

end Cert.Proof.Canon

end
-- ==== Proof.Block.lean ====
/-
  A block and its chunks: the element of chunk `c` at row `r` and lane `l` is the block's at row `64 c + r` and lane `l`,
  and a block is determined by its chunks.
-/
module

public import proofs.«01_k».proof.Proof.Run
public import Idealize.ShloMosaic.Lib.ValueIdxCore

@[expose] public section

noncomputable section

namespace Cert.Proof.Canon

open Idealize.ShloMosaic Idealize.ShloMosaic.ValueIdx

variable {F : FTy → Type}

/-- The block row of row `r` of chunk `c`. -/
def brow (c : Fin 32) (r : Fin 64) : Fin 2048 := ⟨64 * c.val + r.val, by have := c.isLt; have := r.isLt; omega⟩

/-- A chunk's element in the block. -/
theorem arrOf_apply (X : SX.Idx → Elt F .f32) (c : Fin 32) (j : SC.Idx) :
    arrOf X c j = X (ix4 0 0 (brow c (j 0)) (j 1)) := by
  unfold arrOf
  rw [shapeCast_apply _ cast_SCB_SC j (ix4 0 0 (j 0) (j 1)) (by
    rw [Shape.rowMajor_val_four, Shape.rowMajor_val_two]
    show ((0 * 1 + 0) * 64 + (j 0).val) * 128 + (j 1).val = (j 0).val * 128 + (j 1).val
    omega)]
  refine congrArg X (funext fun a => Fin.ext ?_)
  match a with
  | ⟨0, _⟩ => rfl
  | ⟨1, _⟩ => rfl
  | ⟨2, _⟩ => show 64 * c.val + 1 * (j 0).val = 64 * c.val + (j 0).val; omega
  | ⟨3, _⟩ => show 0 + 1 * (j 1).val = (j 1).val; omega

/-- The block with given chunks. -/
def unArr (A : Arr F) : SX.Idx → Elt F .f32 := fun y =>
  A ⟨(y 2).val / 64, by have : (y 2).val < 2048 := (y 2).isLt; omega⟩ (ix2 ⟨(y 2).val % 64, Nat.mod_lt _ (by decide)⟩ (y 3))

/-- A block is the block of its chunks. -/
theorem eq_unArr {X : SX.Idx → Elt F .f32} {A : Arr F} (h : arrOf X = A) : X = unArr A := by
  subst h
  funext y
  unfold unArr
  rw [arrOf_apply]
  refine congrArg X (funext fun a => Fin.ext ?_)
  match a with
  | ⟨0, _⟩ => have : (y 0).val < 1 := (y 0).isLt; show (y 0).val = 0; omega
  | ⟨1, _⟩ => have : (y 1).val < 1 := (y 1).isLt; show (y 1).val = 0; omega
  | ⟨2, _⟩ => show (y 2).val = 64 * ((y 2).val / 64) + (y 2).val % 64; omega
  | ⟨3, _⟩ => rfl

end Cert.Proof.Canon

end
-- ==== Proof.BodyKI.lean ====
/-
  `KernelIdeal`'s sorting kernel is the canonical one: each printed window of its loops is the canonical loops by
  unfolding, and the windows in order are the canonical passes in order.
-/
module

public import proofs.«01_k».proof.Proof.Canon
public import proofs.«01_k».proof.Proof.Gen.KernelIdeal
public import Idealize.ShloMosaic.Lib.Pipeline.Regions

@[expose] public section

noncomputable section

namespace Cert.Proof.KI

open Idealize.ShloMosaic Idealize.SL.Sem
open Cert.KernelIdeal Cert.KernelIdeal.Gen
open Cert.Proof.Canon

variable {F : FTy → Type} [FloatOps F]

/-- The first window: loops 1 to 9. -/
theorem part190_eq (i : grid0.Coords) (a2 : Memref sig .tc .vmem S1x1x2048x128 .f32) (h2 : a2.IsWhole) (a3 : Memref sig .tc .vmem S1x1x2048x128 .f32) (h3 : a3.IsWhole) :
    k0_part190 (F := F) i a2 h2 a3 h3 = (do
      sweepLoop (F := F) a2 a3
      Pass.prog (F := F) a3 (.first 8 0 1)
      Pass.prog (F := F) a3 (.last 8)
      Pass.prog (F := F) a3 (.first 9 0 2)
      Pass.prog (F := F) a3 (.mid 9 1)
      Pass.prog (F := F) a3 (.last 9)
      Pass.prog (F := F) a3 (.first 10 0 3)
      Pass.prog (F := F) a3 (.quad 10 1)
      Pass.prog (F := F) a3 (.last 10)
      pure ⟨iotaR, iotaL, 0#32, 8#32⟩) := by chain_rfl

/-- The second window: loops 10 to 19. -/
theorem part191_eq (i : grid0.Coords) (a2 : Memref sig .tc .vmem S1x1x2048x128 .f32) (h2 : a2.IsWhole) (a3 : Memref sig .tc .vmem S1x1x2048x128 .f32) (h3 : a3.IsWhole) :
    k0_part191 (F := F) i a2 h2 a3 h3 iotaR iotaL 0#32 8#32 = (do
      Pass.prog (F := F) a3 (.first 11 0 4)
      Pass.prog (F := F) a3 (.quad 11 2)
      Pass.prog (F := F) a3 (.mid 11 1)
      Pass.prog (F := F) a3 (.last 11)
      Pass.prog (F := F) a3 (.first 12 1 4)
      Pass.prog (F := F) a3 (.quad 12 2)
      Pass.prog (F := F) a3 (.mid 12 1)
      Pass.prog (F := F) a3 (.last 12)
      Pass.prog (F := F) a3 (.first 13 2 4)
      Pass.prog (F := F) a3 (.quad 13 2)
      pure ⟨0#32, 8#32⟩) := by chain_rfl

/-- The third window: loops 20 to 29. -/
theorem part192_eq (i : grid0.Coords) (a2 : Memref sig .tc .vmem S1x1x2048x128 .f32) (h2 : a2.IsWhole) (a3 : Memref sig .tc .vmem S1x1x2048x128 .f32) (h3 : a3.IsWhole) :
    k0_part192 (F := F) i a2 h2 a3 h3 iotaR iotaL 0#32 8#32 = (do
      Pass.prog (F := F) a3 (.mid 13 1)
      Pass.prog (F := F) a3 (.last 13)
      Pass.prog (F := F) a3 (.first 14 3 4)
      Pass.prog (F := F) a3 (.quad 14 2)
      Pass.prog (F := F) a3 (.mid 14 1)
      Pass.prog (F := F) a3 (.last 14)
      Pass.prog (F := F) a3 (.first 15 4 4)
      Pass.prog (F := F) a3 (.quad 15 2)
      Pass.prog (F := F) a3 (.mid 15 1)
      Pass.prog (F := F) a3 (.last 15)
      pure ⟨0#32, 8#32⟩) := by chain_rfl

/-- The fourth window: loops 30 to 39. -/
theorem part193_eq (i : grid0.Coords) (a2 : Memref sig .tc .vmem S1x1x2048x128 .f32) (h2 : a2.IsWhole) (a3 : Memref sig .tc .vmem S1x1x2048x128 .f32) (h3 : a3.IsWhole) :
    k0_part193 (F := F) i a2 h2 a3 h3 iotaR iotaL 0#32 8#32 = (do
      Pass.prog (F := F) a3 (.first 16 5 4)
      Pass.prog (F := F) a3 (.quad 16 2)
      Pass.prog (F := F) a3 (.mid 16 1)
      Pass.prog (F := F) a3 (.last 16)
      Pass.prog (F := F) a3 (.first 17 6 4)
      Pass.prog (F := F) a3 (.quad 17 2)
      Pass.prog (F := F) a3 (.mid 17 1)
      Pass.prog (F := F) a3 (.last 17)
      Pass.prog (F := F) a3 (.first 18 7 4)
      Pass.prog (F := F) a3 (.quad 18 2)
      pure ⟨0#32, 8#32⟩) := by chain_rfl

/-- The printed sorting kernel is the canonical one. -/
theorem kern_eq (i : grid0.Coords) (a2 : Memref sig .tc .vmem S1x1x2048x128 .f32) (h2 : a2.IsWhole) (a3 : Memref sig .tc .vmem S1x1x2048x128 .f32) (h3 : a3.IsWhole) :
    cc0__bitonic_sort_kernel (F := F) i a2 h2 a3 h3 = kern (F := F) a2 a3 := by
  unfold cc0__bitonic_sort_kernel
  rw [part190_eq]
  simp only [bind_assoc, pure_bind]
  rw [part191_eq]
  simp only [bind_assoc, pure_bind]
  rw [part192_eq]
  simp only [bind_assoc, pure_bind]
  rw [part193_eq]
  simp only [bind_assoc, pure_bind]
  chain_rfl

end Cert.Proof.KI

end
-- ==== Proof.RegionKI.lean ====
/-
  `KernelIdeal`'s two kernel regions: what each body leaves, the proof data of each region at an entry valuation, and
  the regions' records over the unscoped buffers held at a valuation.
-/
module

public import proofs.«01_k».proof.Proof.Block
public import proofs.«01_k».proof.Proof.BodyKI
public import proofs.«01_k».proof.Proof.Gen.KernelIdeal.Regions
public import proofs.«01_k».proof.Proof.Gen.KernelIdeal.Points
public import Idealize.ShloMosaic.Lib.Pipeline.RegionsLoop

@[expose] public section

noncomputable section

namespace Cert.Proof.KI

open Cert.KernelIdeal Cert.KernelIdeal.Gen
open Cert.Proof.Canon
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipelines' own. -/
abbrev UU : Type := UR sig nD τ

local notation "𝕄" => MT nD τ sig Unit (Elt F) ℕ UU ℕ

/-- A whole memref held at the contents `X`. -/
theorem owns_whole (c : Dev nD) {sp : Space} {S : Shape} {e : EltTy} (M : Memref sig .tc sp S e) (h : M.IsWhole) (X : S.Idx → Elt F e) :
    (owns (c : Thread nD τ) M fullShare X : sProp 𝕄)
      = iprop(∃ f : Buf (Elt F) (M.view.loc (c : Thread nD τ)), ⌜M.view.read (Elt F) f = X⌝ ∗ (M.view.loc (c : Thread nD τ) ↦{fullShare} f)) := by
  unfold owns
  rw [h.set_eq_univ]

/-! ## Region 0: the sort -/

/-- The sorting body: the block read is kept, the block written holds the kernel's function of it. -/
theorem sort_run (c : Dev nD) (i : grid0.Coords) (M0 : Memref sig .tc .vmem S1x1x2048x128 .f32) (h0 : M0.IsWhole)
    (M1 : Memref sig .tc .vmem S1x1x2048x128 .f32) (h1 : M1.IsWhole) (X Y : S1x1x2048x128.Idx → Elt F .f32) (Q : PUnit → sProp 𝕄) :
    iprop(owns (c : Thread nD τ) M0 fullShare X ∗ owns (c : Thread nD τ) M1 fullShare Y
        ∗ (owns (c : Thread nD τ) M0 fullShare X ∗ owns (c : Thread nD τ) M1 fullShare (unArr (kernFn (arrOf X))) -∗ Q ⟨⟩))
      ⊢ wp frame (wpE (defs₀ (F := F)) Variants.none c none) Set.univ (cc0__bitonic_sort_kernel i M0 h0 M1 h1) Q := by
  rw [kern_eq, owns_whole c M0 h0, owns_whole c M1 h1, owns_whole c M1 h1]
  iintro ⟨⟨%f0, %e0, H0⟩, ⟨%f1, %e1, H1⟩, Hk⟩
  iapply (wp_kern (M0 := M0) (M1 := M1) (A0 := arrOf X) (A := arrOf Y)) $$ [H0 H1]
  · unfold ptA
    isplitl [H0]
    · iexists f0
      isplitr
      · ipureintro; rw [e0]
      · iexact H0
    · iexists f1
      isplitr
      · ipureintro; rw [e1]
      · iexact H1
  · unfold ptA
    iintro ⟨⟨%g0, %e0', H0⟩, ⟨%g1, %e1', H1⟩⟩
    iapply Hk
    isplitl [H0]
    · iexists g0
      isplitr
      · ipureintro
        exact (eq_unArr e0').trans (eq_unArr rfl).symm
      · iexact H0
    · iexists g1
      isplitr
      · ipureintro
        exact eq_unArr e1'
      · iexact H1

/-! ## Region 1: the squared distance -/

/-- What the second body computes of a block of two sorted halves: the sum of the squared differences over the lanes
    below 96, everywhere. -/
def dn (X : S1x2x2048x128.Idx → Elt F .f32) : S1x8x128.Idx → Elt F .f32 :=
  let half (b : Nat) (hb : ∀ a, (![0, b, 0, 0] : Fin 4 → Nat) a + S1x1x2048x128.size a ≤ S1x2x2048x128.size a) : FVec F S2048x128 .f32 :=
    shapeCast S2048x128 (fun x => X ((Rect.unit (s := S1x2x2048x128) ![0, b, 0, 0] S1x1x2048x128.size hb).idx x) : S1x1x2048x128.Idx → Elt F .f32) shapeCasts_S1x1x2048x128_S2048x128
  let d : FVec F S2048x128 .f32 := select (cmpi .slt (iota .tc S2048x128 32 [1] iota_S2048x128_d1_w32) (broadcast S2048x128 96#32))
    (subf (half 0 inb_S1x2x2048x128_S1x1x2048x128_0_0_0_0) (half 1 inb_S1x2x2048x128_S1x1x2048x128_0_1_0_0))
    (broadcast S2048x128 (Scalar.ofBits .f32 0x00000000#32 : F .f32))
  let s : FVec F S1 .f32 := multiReduction .add [1, 2] S1 (shapeCast S1x2048x128 (mulf d d) shapeCasts_S2048x128_S1x2048x128) 0x00000000#32 reduces_S1x2048x128_S1 (.inl rfl) rfl
  shapeCast S1x8x128 (broadcast S8x128 (extractAt ![0, 0, 0] (shapeCast S1x1x1 s shapeCasts_S1_S1x1x1) inpos_S1x1x1_p0_0_0)) shapeCasts_S8x128_S1x8x128

/-- A store over the whole of the output block leaves what was stored. -/
theorem read_store_out (v : View sig .tc .vmem S1x8x128 .f32) (f : v.ty.Contents (Elt F)) (w : S1x8x128.Idx → Elt F .f32) :
    v.read (Elt F) ((v.slice (Rect.unit (s := S1x8x128) ![0, 0, 0] S1x8x128.size inb_S1x8x128_S1x8x128_0_0_0)).write (Elt F) f w Finset.univ) = w := by
  funext y
  exact View.read_writes_cons_unit_of_mem (off' := ![0, 0, 0]) v f inb_S1x8x128_S1x8x128_0_0_0 w [] y y rfl (fun a => by
    match a with
    | ⟨0, _⟩ => exact (Nat.zero_add _).symm
    | ⟨1, _⟩ => exact (Nat.zero_add _).symm
    | ⟨2, _⟩ => exact (Nat.zero_add _).symm)

/-- The second body: the block read is kept, the block written holds `dn` of it. -/
theorem diff_run (c : Dev nD) (i : grid1.Coords) (M0 : Memref sig .tc .vmem S1x2x2048x128 .f32) (h0 : M0.IsWhole)
    (M1 : Memref sig .tc .vmem S1x8x128 .f32) (h1 : M1.IsWhole) (X : S1x2x2048x128.Idx → Elt F .f32) (Y : S1x8x128.Idx → Elt F .f32) (Q : PUnit → sProp 𝕄) :
    iprop(owns (c : Thread nD τ) M0 fullShare X ∗ owns (c : Thread nD τ) M1 fullShare Y
        ∗ (owns (c : Thread nD τ) M0 fullShare X ∗ owns (c : Thread nD τ) M1 fullShare (dn X) -∗ Q ⟨⟩))
      ⊢ wp frame (wpE (defs₀ (F := F)) Variants.none c none) Set.univ (cc1__diff_norm_kernel i M0 h0 M1 h1) Q := by
  rw [owns_whole c M0 h0, owns_whole c M1 h1, owns_whole c M1 h1]
  iintro ⟨⟨%f0, %e0, H0⟩, ⟨%f1, %e1, H1⟩, Hk⟩
  subst e0
  unfold cc1__diff_norm_kernel
  sl_exec!
  sl_step
  iapply Hk
  isplitl [H0]
  · iexists f0
    isplitr
    · ipureintro; rfl
    · iexact H0
  · iexists _
    isplitr
    swap
    · iexact H1
    · ipureintro
      exact read_store_out _ _ _

/-! ## The proof data, at an entry valuation -/

section Data

variable (V : (c : Dev nD) → (b : Ref sig .tc) → Buf (Elt F) ((c : Thread nD τ).loc b))

abbrev 𝒱₀ : Variants := Variants.none

/-- Region 0's block at point `t`, as the fetch stages it. -/
abbrev stg0 (c : Dev nD) (t : Fin cfg0.N) : (cfg0.win 0).block.Idx → Elt F (cfg0.win 0).elt :=
  ((cfg0.win 0).blk t).view.read (Elt F) (V c main_v8)

/-- Region 0's proof data from the valuation `V`: the arrays at `V`, the input's buffer as fetched, the output's at the
    body's function of it. -/
def dat0 (c : Dev nD) : Dat τ (Elt F) Unit ℕ UU ℕ cfg0 c where
  A w := V c (Pipeline.arrRef spec0 w)
  after w t := match w with
    | ⟨0, _⟩ => stg0 V c t
    | ⟨1, _⟩ => unArr (kernFn (arrOf (stg0 V c t)))
  Φ _ := Pipeline.scopedRest (Ix := Unit) (Name := ℕ) (U := UU) (Lvl := ℕ) (Val := Elt F) spec0 c
  q _ := fullShare
  owed _ := 0

/-- The fetched window's buffer holds its block when the body runs. -/
theorem before0 (c : Dev nD) (t : Fin cfg0.N) (d : (cfg0.win 0).block.Idx → Elt F (cfg0.win 0).elt) : (dat0 V c).before 0 t d = stg0 V c t := by
  unfold Dat.before
  rw [if_pos (fetch0_0 t)]
  rfl

/-- Region 0's body obligation. -/
theorem obligation0 (c : Dev nD) : BodyObligation (dat0 V c) (defs₀ (F := F)) 𝒱₀ () Set.univ := fun t => by
  rw [bigSep_W0, bigSep_W0]
  rw [show (dat0 V c).Φ t.succ = (dat0 V c).Φ t.castSucc from rfl,
    show (dat0 V c).owesAt () t.succ = (dat0 V c).owesAt () t.castSucc from rfl]
  iintro ⟨HΦ, Howes, ⟨%d0, H0⟩, ⟨%d1, H1⟩⟩
  rw [before0]
  iapply (sort_run c (grid0.coords t) (win0_0.stage (cfg0.slots t 0)) (hstage0_0 ((cfg0.slots t 0).cast nbuf0_0)) (win0_1.stage (cfg0.slots t 1))
    (hstage0_1 ((cfg0.slots t 1).cast nbuf0_1)) (stg0 V c t) ((dat0 V c).before 1 t d1) _)
  isplitl [H0]; · iexact H0
  isplitl [H1]; · iexact H1
  iintro ⟨H0, H1⟩
  isplitl [HΦ]; · iexact HΦ
  isplitl [Howes]; · iexact Howes
  isplitl [H0]; · iexact H0
  iexact H1

/-- Region 1's block at point `t`, as the fetch stages it. -/
abbrev stg1 (c : Dev nD) (t : Fin cfg1.N) : (cfg1.win 0).block.Idx → Elt F (cfg1.win 0).elt :=
  ((cfg1.win 0).blk t).view.read (Elt F) (V c main_v9)

/-- Region 1's proof data from the valuation `V`: the arrays at `V`, the input's buffer as fetched, the output's at the
    body's function of it. -/
def dat1 (c : Dev nD) : Dat τ (Elt F) Unit ℕ UU ℕ cfg1 c where
  A w := V c (Pipeline.arrRef spec1 w)
  after w t := match w with
    | ⟨0, _⟩ => stg1 V c t
    | ⟨1, _⟩ => dn (stg1 V c t)
  Φ _ := Pipeline.scopedRest (Ix := Unit) (Name := ℕ) (U := UU) (Lvl := ℕ) (Val := Elt F) spec1 c
  q _ := fullShare
  owed _ := 0

/-- The fetched window's buffer holds its block when the body runs. -/
theorem before1 (c : Dev nD) (t : Fin cfg1.N) (d : (cfg1.win 0).block.Idx → Elt F (cfg1.win 0).elt) : (dat1 V c).before 0 t d = stg1 V c t := by
  unfold Dat.before
  rw [if_pos (fetch1_0 t)]
  rfl

/-- Region 1's body obligation. -/
theorem obligation1 (c : Dev nD) : BodyObligation (dat1 V c) (defs₀ (F := F)) 𝒱₀ () Set.univ := fun t => by
  rw [bigSep_W1, bigSep_W1]
  rw [show (dat1 V c).Φ t.succ = (dat1 V c).Φ t.castSucc from rfl,
    show (dat1 V c).owesAt () t.succ = (dat1 V c).owesAt () t.castSucc from rfl]
  iintro ⟨HΦ, Howes, ⟨%d0, H0⟩, ⟨%d1, H1⟩⟩
  rw [before1]
  iapply (diff_run c (grid1.coords t) (win1_0.stage (cfg1.slots t 0)) (hstage1_0 ((cfg1.slots t 0).cast nbuf1_0)) (win1_1.stage (cfg1.slots t 1))
    (hstage1_1 ((cfg1.slots t 1).cast nbuf1_1)) (stg1 V c t) ((dat1 V c).before 1 t d1) _)
  isplitl [H0]; · iexact H0
  isplitl [H1]; · iexact H1
  iintro ⟨H0, H1⟩
  isplitl [HΦ]; · iexact HΦ
  isplitl [Howes]; · iexact Howes
  isplitl [H0]; · iexact H0
  iexact H1

end Data

/-! ## The regions over the unscoped buffers -/

/-- No core owes another anything: no level is assigned. -/
abbrev L : GSem nD τ sig → Finset Unit := fun _ => ∅
abbrev lv : GSem nD τ sig → Unit → ℕ := fun _ _ => 0

/-- What a core owes between items: nothing. -/
abbrev R (c : Dev nD) : sProp 𝕄 := iprop(∃ W, owes (c : Thread nD τ) (0 : CellTallies nD τ sig Unit) W)

/-- The two regions' proof data, each at its own entry valuation. -/
def pdats (V0 V1 : (c : Dev nD) → (b : Ref sig .tc) → Buf (Elt F) ((c : Thread nD τ).loc b)) :
    (p : Fin 2) → (c : Dev nD) → Dat τ (Elt F) Unit ℕ UU ℕ (cfgs p) c
  | ⟨0, _⟩ => fun c => dat0 V0 c
  | ⟨1, _⟩ => fun c => dat1 V1 c

set_option backward.isDefEq.respectTransparency.types false in
/-- Region 0's record: entered from every unscoped buffer at `V0`, left at `Vp`, which has the output's array as the
    library computes it and is `V0` elsewhere. -/
def reg0 (V0 V1 Vp : (c : Dev nD) → (b : Ref sig .tc) → Buf (Elt F) ((c : Thread nD τ).loc b))
    (hout : ∀ c, Vp c main_v9 = (dat0 V0 c).arrAt 1 cfg0.N)
    (hne : ∀ c (b : Ref sig .tc), b ≠ main_v9 → Vp c b = V0 c b) :
    Pipeline.RegionSeg (pcfgs (F := F)) adm (pdats V0 V1) () defs₀ 𝒱₀ L lv 0 where
  win := launch0.win.to₀
  block_pos := launch0.block_pos
  stage_whole := launch0.stage_whole
  K := PEmpty
  osem k := k.elim
  ho := Pipeline.OwnSemFacts.none _
  hbody c := (obligation0 V0 c).loose
  hwaits := Pipeline.hwaits_of_owed_zero _ _ _ _ L lv 0 fun _ _ => rfl
  pre c := iprop(unscopedBufs c (V0 c) ∗ R c)
  post c := iprop(unscopedBufs c (Vp c) ∗ R c)
  X _ := BI.emp
  Y _ := BI.emp
  Z c := Pipeline.unscopedRest (Ix := Unit) (Name := ℕ) (U := UU) (Lvl := ℕ) spec0 c (V0 c)
  hentry c := by
    rw [Pipeline.ownSems0_none]
    have hsplit := Pipeline.arrays_of_unscopedBufs (p := 0) (pcfgs (F := F)) adm (pdats V0 V1) launch0.win launch0.arr_whole c
      ((pdats V0 V1 0 c).share_full fun _ => rfl) (V0 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V0 V1 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats V0 V1 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats V0 V1) ((pdats V0 V1 0 c).share_full fun _ => rfl) (V0 c) (Vp c) ((pdats V0 V1 0 c).arrAt · cfg0.N)
      (fun w => by
        fin_cases w
        · exact ((pdats V0 V1 0 c).arrAt_in 0 rfl _).trans (hne c main_v8 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1's record: entered from every unscoped buffer at `V1`, left at `Vp`, which has the output's array as the
    library computes it and is `V1` elsewhere. -/
def reg1 (V0 V1 Vp : (c : Dev nD) → (b : Ref sig .tc) → Buf (Elt F) ((c : Thread nD τ).loc b))
    (hout : ∀ c, Vp c main_v10 = (dat1 V1 c).arrAt 1 cfg1.N)
    (hne : ∀ c (b : Ref sig .tc), b ≠ main_v10 → Vp c b = V1 c b) :
    Pipeline.RegionSeg (pcfgs (F := F)) adm (pdats V0 V1) () defs₀ 𝒱₀ L lv 1 where
  win := launch1.win.to₀
  block_pos := launch1.block_pos
  stage_whole := launch1.stage_whole
  K := PEmpty
  osem k := k.elim
  ho := Pipeline.OwnSemFacts.none _
  hbody c := (obligation1 V1 c).loose
  hwaits := Pipeline.hwaits_of_owed_zero _ _ _ _ L lv 1 fun _ _ => rfl
  pre c := iprop(unscopedBufs c (V1 c) ∗ R c)
  post c := iprop(unscopedBufs c (Vp c) ∗ R c)
  X _ := BI.emp
  Y _ := BI.emp
  Z c := Pipeline.unscopedRest (Ix := Unit) (Name := ℕ) (U := UU) (Lvl := ℕ) spec1 c (V1 c)
  hentry c := by
    rw [Pipeline.ownSems0_none]
    have hsplit := Pipeline.arrays_of_unscopedBufs (p := 1) (pcfgs (F := F)) adm (pdats V0 V1) launch1.win launch1.arr_whole c
      ((pdats V0 V1 1 c).share_full fun _ => rfl) (V1 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V0 V1 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats V0 V1 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats V0 V1) ((pdats V0 V1 1 c).share_full fun _ => rfl) (V1 c) (Vp c) ((pdats V0 V1 1 c).arrAt · cfg1.N)
      (fun w => by
        fin_cases w
        · exact ((pdats V0 V1 1 c).arrAt_in 0 rfl _).trans (hne c main_v9 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.KI

end
-- ==== Proof.LaunchKI.lean ====
/-
  `KernelIdeal` run from launch: what the two regions leave, and the theorem that every execution ends with the arguments as
  launched, every counter at zero and the result's buffer at the last valuation.
-/
module

public import proofs.«01_k».proof.Proof.RegionKI
public import Idealize.ShloMosaic.Lib.Pipeline.Frame

@[expose] public section

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg)

variable {F : FTy → Type} [FloatOps F]

local notation "𝕄" => MT nD τ sig Unit (Elt F) ℕ UU ℕ

variable (m : (ℓ : Loc nD τ sig) → Buf (Elt F) ℓ)

/-- The valuation region 0 is entered at. -/
abbrev Va (c : Dev nD) (b : Ref sig .tc) : Buf (Elt F) ((c : Thread nD τ).loc b) := V5 m c b
/-- The sorted array region 0 leaves. -/
def sorted (c : Dev nD) : Buf (Elt F) ((c : Thread nD τ).loc main_v9) := (dat0 (Va m) c).arrAt 1 cfg0.N
/-- The valuation region 1 is entered at. -/
abbrev Vb (c : Dev nD) (b : Ref sig .tc) : Buf (Elt F) ((c : Thread nD τ).loc b) :=
  (Function.update (V5 m c) main_v9 (sorted m c) : Valuation τ sig (Elt F)) b
/-- The array of squared distances region 1 leaves. -/
def dists (c : Dev nD) : Buf (Elt F) ((c : Thread nD τ).loc main_v10) := (dat1 (Vb m) c).arrAt 1 cfg1.N

/-- What the regions leave, as the library's unknowns. -/
def outs : Outs (F := F) := fun _ r c =>
  if h : r = main_v9 then h.symm ▸ sorted m c else if h : r = main_v10 then h.symm ▸ dists m c else m ((c : Thread nD τ).loc r)

theorem outs_v9 (c : Dev nD) : outs m 6 main_v9 c = sorted m c := by unfold outs; rw [dif_pos rfl]
theorem outs_v10 (c : Dev nD) : outs m 7 main_v10 c = dists m c := by unfold outs; rw [dif_neg (by decide), dif_pos rfl]

/-- Region 1 is entered at the valuation region 0 leaves. -/
theorem V6_eq (c : Dev nD) : V6 m (outs m) c = (Function.update (V5 m c) main_v9 (sorted m c) : Valuation τ sig (Elt F)) := by
  unfold V6; rw [outs_v9]

/-- The valuations after each region, reference by reference. -/
abbrev Vp0 (c : Dev nD) (b : Ref sig .tc) : Buf (Elt F) ((c : Thread nD τ).loc b) := V6 m (outs m) c b
abbrev Vp1 (c : Dev nD) (b : Ref sig .tc) : Buf (Elt F) ((c : Thread nD τ).loc b) := V7 m (outs m) c b

/-- Region 0's record in the run. -/
def R0 : Pipeline.RegionSeg (pcfgs (F := F)) adm (pdats (Va m) (Vb m)) () defs₀ 𝒱₀ L lv 0 :=
  reg0 (Va m) (Vb m) (Vp0 m)
    (fun c => by
      show V6 m (outs m) c main_v9 = _
      unfold V6; rw [Function.update_self]; exact outs_v9 m c)
    (fun c b hb => V6_of m (outs m) c b (by simpa using hb))

/-- Region 1's record in the run. -/
def R1 : Pipeline.RegionSeg (pcfgs (F := F)) adm (pdats (Va m) (Vb m)) () defs₀ 𝒱₀ L lv 1 :=
  reg1 (Va m) (Vb m) (Vp1 m)
    (fun c => by
      show V7 m (outs m) c main_v10 = _
      unfold V7; rw [Function.update_self]; exact outs_v10 m c)
    (fun c b hb => (V7_of m (outs m) c b (by simpa using hb)).trans (congrFun (V6_eq m c) _))

/-- The launch element's share of the pipelines' algebra. -/
def u₀ : UU := initOf (Pipeline.cells cfgs cellOf_inj) (Pipeline.launchToks cfgs cellOf_inj)

/-- The embedding of the pipelines' algebra. -/
abbrev EP : Emb (UR sig nD τ) (MT nD τ sig Unit (Elt F) ℕ UU ℕ) := emb₁

set_option backward.isDefEq.respectTransparency.types false in
/-- Every execution of `KernelIdeal` ends with the arguments as launched, the result's buffer at the last valuation, and every
    counter at zero. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v15) = V8 m (outs m) c main_v15)
      ∧ r.2.sem = fun _ => 0) := by
  refine Pipeline.θ_run_regions_kit_dev_sems (pcfgs (F := F)) adm (pdats (Va m) (Vb m)) () cellOf_inj EP defs₀ 𝒱₀ L lv m ρ main
    (segs m (outs m) 𝒱₀ L lv (fun _ c => R c) () (pdats (Va m) (Vb m)) (R0 m) (R1 m))
    (fun c Q => by
      rewrite [main_chain c, Seg.run_eq_chain,
        show (segs m (outs m) 𝒱₀ L lv (fun _ c => R c) () (pdats (Va m) (Vb m)) (R0 m) (R1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) (O₀ := 0) (hL := fun _ _ => rfl)
    (G := fun _ => iprop(emp)) (u₀ := u₀)
    (hu₀ := by
      iintro Hu
      imodintro
      isplitl [Hu]
      · iapply (show (ownU u₀ : sProp 𝕄) ⊢ BI.own (EP (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V8 m (outs m) c))
    (hch := fun c => ⟨.rfl, .rfl, .rfl, .rfl, .rfl, ?_, ?_, ?_, sep_mono .rfl .rfl⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1))
      ∧ s.mem ((c.tc : Thread nD τ).loc main_v15) = V8 m (outs m) c main_v15)
    (hfin := fun c s' => ?_) (hQ := fun _ h hz => ⟨h, funext fun g => hz g (.inr (regions_no_unscoped g.2))⟩)
  · exact sep_mono (Entails.of_eq (Pipeline.unscopedBufs_held (Ix := Unit) (Name := ℕ) (U := UU) (Lvl := ℕ) c (V5 m c)).symm) .rfl
  · show iprop(unscopedBufs c (Vp0 m c) ∗ R c) ⊢ iprop(unscopedBufs c (Vb m c) ∗ R c)
    rw [show Vp0 m c = Vb m c from funext fun b => congrFun (V6_eq m c) _]
  · exact sep_mono (Entails.of_eq (Pipeline.unscopedBufs_held (Ix := Unit) (Name := ℕ) (U := UU) (Lvl := ℕ) c (V7 m (outs m) c))) .rfl
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V8_main_arg0 m (outs m) c),
        (h (Proc.devRef .tc main_arg1) (Finset.mem_filter.mpr ⟨StableHlo.devRef_mem_tcRefs main_arg1, by decide⟩)).trans (V8_main_arg1 m (outs m) c)⟩,
        h (Proc.devRef .tc main_v15) (Finset.mem_filter.mpr ⟨StableHlo.devRef_mem_tcRefs main_v15, by decide⟩)⟩
    · iexact HSI

end Cert.Proof.KI

end
-- ==== Proof.Stage.lean ====
/-
  One stage of the bitonic network, on the whole sequence of 2 ^ 18 entries and on a chunk: a row rotation, a compare-exchange
  of half groups of rows, a lane rotation and a compare-exchange of two chunks are each the network's stage at their distance.
-/
module

public import proofs.«01_k».proof.Proof.Block
public import Idealize.ShloMosaic.Lib.SortNet.Sorts
public import Idealize.ShloMosaic.Lib.KernelVsHost
public import Idealize.ShloMosaic.PureOps.Ideal

@[expose] public section

noncomputable section

namespace Cert.Proof.Canon

open Idealize.ShloMosaic Idealize.ShloMosaic.ValueIdx Idealize.ShloMosaic.SortNet

/-- The sequence a block stands for. -/
abbrev Sq : Type := Fin (2 ^ 18) → EReal

/-- Row `r`, lane `l` of chunk `c` stands at `2048 l + 64 c + r`. -/
def pos (c : Fin 32) (r : Fin 64) (l : Fin 128) : Fin (2 ^ 18) :=
  ⟨2 ^ 11 * l.val + (2 ^ 6 * c.val + r.val), by have := c.isLt; have := r.isLt; have := l.isLt; omega⟩

/-- Chunk `c` of a sequence. -/
def ck (v : Sq) (c : Fin 32) : Chunk Ideal := fun j => v (pos c (j 0) (j 1))

/-- The bits of a position: the row's, the chunk's, the lane's. -/
theorem pos_testBit (c : Fin 32) (r : Fin 64) (l : Fin 128) (s : Nat) :
    (pos c r l).val.testBit s = if s < 11 then (if s < 6 then r.val.testBit s else c.val.testBit (s - 6)) else l.val.testBit (s - 11) := by
  have hr := r.isLt
  have hc := c.isLt
  show (2 ^ 11 * l.val + (2 ^ 6 * c.val + r.val)).testBit s = _
  rw [Nat.testBit_two_pow_mul_add _ (by omega : 2 ^ 6 * c.val + r.val < 2 ^ 11), Nat.testBit_two_pow_mul_add _ (by omega : r.val < 2 ^ 6)]

theorem bit_row {s : Nat} (h : s < 6) (c : Fin 32) (r : Fin 64) (l : Fin 128) : (pos c r l).val.testBit s = r.val.testBit s := by
  rw [pos_testBit, if_pos (by omega), if_pos h]
theorem bit_chunk {s : Nat} (h : s < 5) (c : Fin 32) (r : Fin 64) (l : Fin 128) : (pos c r l).val.testBit (6 + s) = c.val.testBit s := by
  rw [pos_testBit, if_pos (by omega), if_neg (by omega), Nat.add_sub_cancel_left]
theorem bit_lane (s : Nat) (c : Fin 32) (r : Fin 64) (l : Fin 128) : (pos c r l).val.testBit (11 + s) = l.val.testBit s := by
  rw [pos_testBit, if_neg (by omega), Nat.add_sub_cancel_left]

theorem partner_row {e : Nat} (he : e < 6) (c : Fin 32) (r r' : Fin 64) (l : Fin 128) (hr : r'.val = r.val ^^^ 2 ^ e) :
    partner 18 e (pos c r l) = pos c r' l := by
  refine Fin.ext ?_
  rw [partner_val (by omega)]
  refine Nat.eq_of_testBit_eq fun t => ?_
  rw [Nat.testBit_xor, pos_testBit, pos_testBit, Nat.testBit_two_pow, hr, Nat.testBit_xor, Nat.testBit_two_pow]
  split
  · split
    · rfl
    · rw [decide_eq_false (by omega), Bool.xor_false]
  · rw [decide_eq_false (by omega), Bool.xor_false]

theorem partner_chunk {e : Nat} (he : e < 5) (c c' : Fin 32) (r : Fin 64) (l : Fin 128) (hc : c'.val = c.val ^^^ 2 ^ e) :
    partner 18 (6 + e) (pos c r l) = pos c' r l := by
  refine Fin.ext ?_
  rw [partner_val (by omega)]
  refine Nat.eq_of_testBit_eq fun t => ?_
  rw [Nat.testBit_xor, pos_testBit, pos_testBit, Nat.testBit_two_pow, hc, Nat.testBit_xor, Nat.testBit_two_pow]
  split
  · split
    · rw [decide_eq_false (by omega), Bool.xor_false]
    · rw [show decide (e = t - 6) = decide (6 + e = t) from decide_eq_decide.mpr (by omega)]
  · rw [decide_eq_false (by omega), Bool.xor_false]

theorem partner_lane {e : Nat} (he : e < 7) (c : Fin 32) (r : Fin 64) (l l' : Fin 128) (hl : l'.val = l.val ^^^ 2 ^ e) :
    partner 18 (11 + e) (pos c r l) = pos c r l' := by
  refine Fin.ext ?_
  rw [partner_val (by omega)]
  refine Nat.eq_of_testBit_eq fun t => ?_
  rw [Nat.testBit_xor, pos_testBit, pos_testBit, Nat.testBit_two_pow, hl, Nat.testBit_xor, Nat.testBit_two_pow]
  split
  · rw [decide_eq_false (by omega), Bool.xor_false]
  · rw [show decide (e = t - 11) = decide (11 + e = t) from decide_eq_decide.mpr (by omega)]

/-! ## A stage of the sequence -/

/-- The stage at distance `2 ^ s` of level `k`: ascending where bit `k` is clear. -/
def stg (k s : Nat) (v : Sq) : Sq := Network.apply (stage 18 s fun i => decide (i.val &&& 2 ^ k = 0) == false) v

/-- What a stage leaves at a position: the lesser of the two where the bits `k` and `s` agree, else the greater. -/
theorem stg_apply {k s : Nat} (hs : s < 18) (hks : k ≠ s) (v : Sq) (i : Fin (2 ^ 18)) :
    stg k s v i = if i.val.testBit k = i.val.testBit s then min (v i) (v (partner 18 s i)) else max (v i) (v (partner 18 s i)) := by
  have hb : ∀ j : Fin (2 ^ 18), (decide (j.val &&& 2 ^ k = 0) == false) = j.val.testBit k := fun j => by
    cases h : j.val.testBit k
    · rw [decide_eq_true ((and_two_pow_eq_zero_iff_testBit j.val k).mpr h)]; rfl
    · rw [decide_eq_false fun h' => by rw [(and_two_pow_eq_zero_iff_testBit j.val k).mp h'] at h; exact Bool.noConfusion h]; rfl
  by_cases h : i.val &&& 2 ^ s = 0
  · have e := (and_two_pow_eq_zero_iff_testBit _ _).mp h
    unfold stg
    rw [(apply_stage hs _ v i h).1, hb, e]
    cases i.val.testBit k <;> rfl
  · have e : i.val.testBit s = true := by
      cases h' : i.val.testBit s
      · exact absurd ((and_two_pow_eq_zero_iff_testBit _ _).mpr h') h
      · rfl
    have hp : (partner 18 s i).val &&& 2 ^ s = 0 := by
      rw [and_two_pow_eq_zero_iff_testBit, partner_val hs, Nat.testBit_xor, e, Nat.testBit_two_pow, decide_eq_true rfl]; rfl
    have hk : (partner 18 s i).val.testBit k = i.val.testBit k := by
      rw [partner_val hs, Nat.testBit_xor, Nat.testBit_two_pow, decide_eq_false (fun h => hks h.symm), Bool.xor_false]
    have key := (apply_stage hs (fun j => decide (j.val &&& 2 ^ k = 0) == false) v (partner 18 s i) hp).2
    rw [partner_partner hs] at key
    unfold stg
    rw [key, hb, hk, e, min_comm, max_comm]

theorem stg_eq (k s : Nat) (v : Sq) : stg k s v = Network.apply (stage 18 s fun i => decide (i.val &&& 2 ^ k = 0) == false) v := rfl

attribute [irreducible] stg

/-- A stage at a chunk's element, its partner named. -/
theorem ck_stg {k s : Nat} (hs : s < 18) (hks : k ≠ s) (v : Sq) (c c' : Fin 32) (r r' : Fin 64) (l l' : Fin 128)
    (hp : partner 18 s (pos c r l) = pos c' r' l') :
    ck (stg k s v) c (ix2 r l) = if (pos c r l).val.testBit k = (pos c r l).val.testBit s then min (ck v c (ix2 r l)) (ck v c' (ix2 r' l'))
      else max (ck v c (ix2 r l)) (ck v c' (ix2 r' l')) := by
  show stg k s v (pos c r l) = _
  rw [stg_apply hs hks, hp]
  rfl

/-! ## Directions -/

/-- A direction at an element. -/
def Up.at : Up → SC.Idx → BitVec 1
  | .s b, _ => b
  | .v m, j => m j

/-- The direction is up exactly where bit `k` of the position is clear. -/
def Dir (up : Up) (k : Nat) (c : Fin 32) : Prop := ∀ r l, up.at (ix2 r l) = BitVec.ofBool (!(pos c r l).val.testBit k)

theorem bit_word6 : ∀ (e : Fin 6) (r : Fin 64), IntOp.cmpi .eq (IntOp.andi (BitVec.ofNat 32 r.val) (BitVec.ofNat 32 (2 ^ e.val))) 0#32
    = BitVec.ofBool (!r.val.testBit e.val) := by decide +kernel
theorem bit_word7 : ∀ (e : Fin 8) (r : Fin 128), IntOp.cmpi .eq (IntOp.andi (BitVec.ofNat 32 r.val) (BitVec.ofNat 32 (2 ^ e.val))) 0#32
    = BitVec.ofBool (!r.val.testBit e.val) := by decide +kernel
theorem bit_word5 : ∀ (e : Fin 5) (c : Fin 32), IntOp.cmpi .eq (IntOp.andi (BitVec.ofNat 32 c.val) (BitVec.ofNat 32 (2 ^ e.val))) 0#32
    = BitVec.ofBool (!c.val.testBit e.val) := by decide +kernel

theorem loMaskR {e : Nat} (he : e < 6) (r : Fin 64) (l : Fin 128) :
    loMask iotaR (BitVec.ofNat 32 (2 ^ e)) (ix2 r l) = BitVec.ofBool (!r.val.testBit e) := by
  have h : iotaR (ix2 r l) = BitVec.ofNat 32 r.val := iota_single_apply .tc SC 32 0 _ _
  show IntOp.cmpi .eq (IntOp.andi (iotaR (ix2 r l)) (BitVec.ofNat 32 (2 ^ e))) 0#32 = _
  rw [h]
  exact bit_word6 ⟨e, he⟩ r

theorem loMaskL {e : Nat} (he : e < 8) (r : Fin 64) (l : Fin 128) :
    loMask iotaL (BitVec.ofNat 32 (2 ^ e)) (ix2 r l) = BitVec.ofBool (!l.val.testBit e) := by
  have h : iotaL (ix2 r l) = BitVec.ofNat 32 l.val := iota_single_apply .tc SC 32 1 _ _
  show IntOp.cmpi .eq (IntOp.andi (iotaL (ix2 r l)) (BitVec.ofNat 32 (2 ^ e))) 0#32 = _
  rw [h]
  exact bit_word7 ⟨e, he⟩ l

/-- A row mask is the direction of its level. -/
theorem dir_row {e : Nat} (he : e < 6) (c : Fin 32) : Dir (.v (loMask iotaR (BitVec.ofNat 32 (2 ^ e)))) e c := fun r l => by
  show loMask iotaR _ (ix2 r l) = _
  rw [loMaskR he, pos_testBit, if_pos (by omega), if_pos he]

/-- A lane mask is the direction of its level. -/
theorem dir_lane {k : Nat} (hk : 11 ≤ k) (hk' : k < 19) (w : BitVec 32) (c : Fin 32) : Dir (upAt k w) k c := fun r l => by
  have h : upAt k w = .v (loMask iotaL (BitVec.ofNat 32 (2 ^ (k - 11)))) := by
    unfold upAt
    rw [show Nat.blt k 11 = false from Bool.eq_false_iff.mpr fun h => by rw [Nat.blt_eq] at h; omega]
    rfl
  rw [h]
  show loMask iotaL _ (ix2 r l) = _
  rw [loMaskL (by omega), pos_testBit, if_neg (by omega)]

/-- The direction of level `k` at chunk `w` is the direction of every chunk with the same bit `k - 6`. -/
theorem dir_upAt {k : Nat} (hk : 6 ≤ k) (hk' : k < 19) {w : BitVec 32} (hw : w.toNat < 32) (c : Fin 32)
    (hc : k < 11 → c.val.testBit (k - 6) = (ci w).val.testBit (k - 6)) : Dir (upAt k w) k c := by
  by_cases h : 11 ≤ k
  · exact dir_lane h hk' w c
  · intro r l
    have e : upAt k w = .s (Scalar.cmpi .eq (Scalar.andi w (BitVec.ofNat 32 (2 ^ (k - 6)))) 0#32) := by
      unfold upAt
      rw [show Nat.blt k 11 = true from by simpa [Nat.blt_eq] using h]
      rfl
    rw [e, pos_testBit, if_pos (by omega), if_neg (by omega), hc (by omega)]
    obtain ⟨n, rfl⟩ : ∃ n : Fin 32, w = BitVec.ofNat 32 n.val := ⟨⟨w.toNat, hw⟩, by simp⟩
    have hn : (ci (BitVec.ofNat 32 n.val)) = n := by clear * -; revert n; decide +kernel
    rw [hn]
    exact bit_word5 ⟨k - 6, by omega⟩ n

/-! ## Selecting by a mask of bits -/

theorem select_ofBool {α : Type} (b : Bool) (x y : α) : Scalar.select (BitVec.ofBool b) x y = if b then x else y := by cases b <;> rfl

theorem select_xor {α : Type} (a b : Bool) (x y : α) :
    Scalar.select (IntOp.xori (IntOp.xori (BitVec.ofBool (!a)) (BitVec.ofBool (!b))) 1#1) x y = if a = b then x else y := by
  cases a <;> cases b <;> rfl

theorem vec_at (up : Up) (j : SC.Idx) : up.vec j = up.at j := by cases up <;> rfl

/-! ## Rotations -/

theorem rot6 : ∀ (e : Fin 6) (r : Fin 64), (if r.val.testBit e.val then (r.val + 64 - (BitVec.ofNat 32 (2 ^ e.val)).toNat % 64) % 64
    else (r.val + 64 - (BitVec.ofNat 32 (64 - 2 ^ e.val)).toNat % 64) % 64) = r.val ^^^ 2 ^ e.val := by decide +kernel
theorem rot7 : ∀ (e : Fin 7) (r : Fin 128), (if r.val.testBit e.val then (r.val + 128 - (BitVec.ofNat 32 (2 ^ e.val)).toNat % 128) % 128
    else (r.val + 128 - (BitVec.ofNat 32 (128 - 2 ^ e.val)).toNat % 128) % 128) = r.val ^^^ 2 ^ e.val := by decide +kernel
theorem xor_lt6 : ∀ (e : Fin 6) (r : Fin 64), r.val ^^^ 2 ^ e.val < 64 := by decide +kernel
theorem xor_lt7 : ∀ (e : Fin 7) (r : Fin 128), r.val ^^^ 2 ^ e.val < 128 := by decide +kernel

theorem rotates0 : SC.Rotates 0 none := by decide
theorem rotates1 : SC.Rotates 1 none := by decide

/-- A row rotation's compare-exchange is the stage at its distance. -/
theorem rollR_ck {e k : Nat} (he : e < 6) (hk : k ≠ e) {up : Up} {c : Fin 32} (hd : Dir up k c) (v : Sq) :
    rollR (F := Ideal) (BitVec.ofNat 32 (2 ^ e)) (BitVec.ofNat 32 (64 - 2 ^ e)) up (ck v c) = ck (stg k e v) c := by
  funext j
  obtain ⟨r, l, rfl⟩ : ∃ (r : Fin 64) (l : Fin 128), j = ix2 r l := ⟨j 0, j 1, eq_ix2 j⟩
  rw [ck_stg (by omega) hk v c c r ⟨r.val ^^^ 2 ^ e, xor_lt6 ⟨e, he⟩ r⟩ l l (partner_row he c r _ l rfl)]
  have hp : Scalar.select (loMask iotaR (BitVec.ofNat 32 (2 ^ e)) (ix2 r l))
      (dynamicRotate (s := SC) 0 (BitVec.ofNat 32 (64 - 2 ^ e)) none (ck v c) rotates0 (ix2 r l))
      (dynamicRotate (s := SC) 0 (BitVec.ofNat 32 (2 ^ e)) none (ck v c) rotates0 (ix2 r l))
      = ck v c (ix2 ⟨r.val ^^^ 2 ^ e, xor_lt6 ⟨e, he⟩ r⟩ l) := by
    have hr := rot6 ⟨e, he⟩ r
    simp only at hr
    rw [loMaskR he, select_ofBool]
    cases hb : r.val.testBit e
    · rw [hb, if_neg (by decide)] at hr
      refine (if_pos (show (!false) = true from rfl)).trans ?_
      refine dynamicRotate_apply (s := SC) 0 _ _ _ _ _ fun b => ?_
      match b with
      | ⟨0, _⟩ => exact hr.symm
      | ⟨1, _⟩ => rfl
    · rw [hb, if_pos rfl] at hr
      refine (if_neg (show ¬(!true) = true from fun h => Bool.noConfusion h)).trans ?_
      refine dynamicRotate_apply (s := SC) 0 _ _ _ _ _ fun b => ?_
      match b with
      | ⟨0, _⟩ => exact hr.symm
      | ⟨1, _⟩ => rfl
  show Scalar.select (IntOp.xori (IntOp.xori (up.vec (ix2 r l)) (loMask iotaR (BitVec.ofNat 32 (2 ^ e)) (ix2 r l))) 1#1)
    (min (ck v c (ix2 r l)) (Scalar.select _ _ _) : EReal) (max (ck v c (ix2 r l)) (Scalar.select _ _ _) : EReal) = _
  rw [hp, vec_at, hd, loMaskR he, select_xor, bit_row he]

/-- A lane rotation's compare-exchange is the stage at its distance. -/
theorem rollL_ck {e k : Nat} (he : e < 7) (hk : k ≠ 11 + e) {up : Up} {c : Fin 32} (hd : Dir up k c) (v : Sq) :
    rollL (F := Ideal) (BitVec.ofNat 32 (2 ^ e)) (BitVec.ofNat 32 (128 - 2 ^ e)) up (ck v c) = ck (stg k (11 + e) v) c := by
  funext j
  obtain ⟨r, l, rfl⟩ : ∃ (r : Fin 64) (l : Fin 128), j = ix2 r l := ⟨j 0, j 1, eq_ix2 j⟩
  rw [ck_stg (by omega) hk v c c r r l ⟨l.val ^^^ 2 ^ e, xor_lt7 ⟨e, he⟩ l⟩ (partner_lane he c r l _ rfl)]
  have hp : Scalar.select (loMask iotaL (BitVec.ofNat 32 (2 ^ e)) (ix2 r l))
      (dynamicRotate (s := SC) 1 (BitVec.ofNat 32 (128 - 2 ^ e)) none (ck v c) rotates1 (ix2 r l))
      (dynamicRotate (s := SC) 1 (BitVec.ofNat 32 (2 ^ e)) none (ck v c) rotates1 (ix2 r l))
      = ck v c (ix2 r ⟨l.val ^^^ 2 ^ e, xor_lt7 ⟨e, he⟩ l⟩) := by
    have hr := rot7 ⟨e, he⟩ l
    simp only at hr
    rw [loMaskL (by omega), select_ofBool]
    cases hb : l.val.testBit e
    · rw [hb, if_neg (by decide)] at hr
      refine (if_pos (show (!false) = true from rfl)).trans ?_
      refine dynamicRotate_apply (s := SC) 1 _ _ _ _ _ fun b => ?_
      match b with
      | ⟨0, _⟩ => rfl
      | ⟨1, _⟩ => exact hr.symm
    · rw [hb, if_pos rfl] at hr
      refine (if_neg (show ¬(!true) = true from fun h => Bool.noConfusion h)).trans ?_
      refine dynamicRotate_apply (s := SC) 1 _ _ _ _ _ fun b => ?_
      match b with
      | ⟨0, _⟩ => rfl
      | ⟨1, _⟩ => exact hr.symm
  show Scalar.select (IntOp.xori (IntOp.xori (up.vec (ix2 r l)) (loMask iotaL (BitVec.ofNat 32 (2 ^ e)) (ix2 r l))) 1#1)
    (min (ck v c (ix2 r l)) (Scalar.select _ _ _) : EReal) (max (ck v c (ix2 r l)) (Scalar.select _ _ _) : EReal) = _
  rw [hp, vec_at, hd, loMaskL (by omega), select_xor, bit_lane]

/-! ## Two chunks -/

theorem sel_at (up : Up) (x y : Chunk Ideal) (j : SC.Idx) : up.sel x y j = Scalar.select (up.at j) (x j) (y j) := by
  cases up with
  | s b => show (Scalar.select b x y) j = Scalar.select b (x j) (y j); unfold Scalar.select; split <;> rfl
  | v m => rfl

/-- The lower chunk after the compare-exchange of two chunks. -/
theorem crossA_ck {e k : Nat} (he : e < 5) (hk : k ≠ 6 + e) {up : Up} {a b : Fin 32} (hb : b.val = a.val ^^^ 2 ^ e)
    (ha : a.val.testBit e = false) (hd : Dir up k a) (v : Sq) : crossA up (ck v a) (ck v b) = ck (stg k (6 + e) v) a := by
  funext j
  obtain ⟨r, l, rfl⟩ : ∃ (r : Fin 64) (l : Fin 128), j = ix2 r l := ⟨j 0, j 1, eq_ix2 j⟩
  rw [ck_stg (by omega) hk v a b r r l l (partner_chunk he a b r l hb)]
  unfold crossA
  rw [sel_at, hd]
  show Scalar.select _ (min (ck v a (ix2 r l)) (ck v b (ix2 r l)) : EReal) (max (ck v a (ix2 r l)) (ck v b (ix2 r l)) : EReal) = _
  rw [select_ofBool, bit_chunk he, ha]
  cases (pos a r l).val.testBit k <;> rfl

/-- The upper chunk after the compare-exchange of two chunks. -/
theorem crossB_ck {e k : Nat} (he : e < 5) (hk : k ≠ 6 + e) {up : Up} {a b : Fin 32} (hb : b.val = a.val ^^^ 2 ^ e)
    (ha : a.val.testBit e = false) (hd : Dir up k a) (v : Sq) : crossB up (ck v a) (ck v b) = ck (stg k (6 + e) v) b := by
  funext j
  obtain ⟨r, l, rfl⟩ : ∃ (r : Fin 64) (l : Fin 128), j = ix2 r l := ⟨j 0, j 1, eq_ix2 j⟩
  have hp := partner_chunk he a b r l hb
  have hp' : partner 18 (6 + e) (pos b r l) = pos a r l := by rw [← hp, partner_partner (by omega)]
  have hbk : (pos b r l).val.testBit k = (pos a r l).val.testBit k := by
    rw [← hp, partner_val (by omega), Nat.testBit_xor, Nat.testBit_two_pow, decide_eq_false (fun h => hk h.symm), Bool.xor_false]
  rw [ck_stg (by omega) hk v b a r r l l hp']
  unfold crossB
  rw [sel_at, hd]
  show Scalar.select _ (max (ck v a (ix2 r l)) (ck v b (ix2 r l)) : EReal) (min (ck v a (ix2 r l)) (ck v b (ix2 r l)) : EReal) = _
  rw [select_ofBool, hbk, bit_chunk he, hb, Nat.testBit_xor, ha,
    Nat.testBit_two_pow, decide_eq_true rfl, min_comm, max_comm]
  cases (pos a r l).val.testBit k <;> rfl

end Cert.Proof.Canon

end
-- ==== Proof.Rows.lean ====
/-
  The compare-exchange of half groups of rows is the network's stage at its distance, and the chains of stages a chunk or a pair
  of chunks goes through are the network's stages in order.
-/
module

public import proofs.«01_k».proof.Proof.Stage

@[expose] public section

noncomputable section

namespace Cert.Proof.Canon

open Idealize.ShloMosaic Idealize.ShloMosaic.ValueIdx Idealize.ShloMosaic.SortNet

section Halves

variable {g dr : Nat} {α : Type}

/-- A group's row is a row of the chunk. -/
theorem grow_lt (hg : g * (2 * dr) = 64) (a : Fin g) (h : Fin 2) (b : Fin dr) : a.val * (2 * dr) + (h.val * dr + b.val) < 64 := by
  have h1 : h.val * dr + b.val < 2 * dr := by
    have := b.isLt
    have hh := h.isLt
    have : h.val * dr ≤ 1 * dr := Nat.mul_le_mul_right dr (by omega)
    omega
  have h2 : (a.val + 1) * (2 * dr) ≤ g * (2 * dr) := Nat.mul_le_mul_right _ a.isLt
  rw [Nat.succ_mul] at h2
  omega

/-- Row `b` of half `h` of group `a`. -/
def grow (hg : g * (2 * dr) = 64) (a : Fin g) (h : Fin 2) (b : Fin dr) : Fin 64 := ⟨a.val * (2 * dr) + (h.val * dr + b.val), grow_lt hg a h b⟩

theorem group_apply (H : Grp g dr) (hg : g * (2 * dr) = 64) (x : SC.Idx → α) (a : Fin g) (h : Fin 2) (b : Fin dr) (l : Fin 128) :
    shapeCast (SG g dr) x H.cg (ix4 a h b l) = x (ix2 (grow hg a h b) l) :=
  shapeCast_apply x H.cg _ _ (by
    rw [Shape.rowMajor_val_four, Shape.rowMajor_val_two]
    show (a.val * (2 * dr) + (h.val * dr + b.val)) * 128 + l.val = ((a.val * 2 + h.val) * dr + b.val) * 128 + l.val
    ring)

/-- The first half of a group, row by row. -/
theorem half0_apply (H : Grp g dr) (hg : g * (2 * dr) = 64) (x : SC.Idx → α) (a : Fin g) (b : Fin dr) (l : Fin 128) :
    half0 H x (ix3 a b l) = x (ix2 (grow hg a 0 b) l) := by
  unfold half0
  refine (shapeCast_apply _ H.hq (ix3 a b l) (ix4 a 0 b l) (by
    rw [Shape.rowMajor_val_four, Shape.rowMajor_val_three]
    show ((a.val * 1 + 0) * dr + b.val) * 128 + l.val = (a.val * dr + b.val) * 128 + l.val
    ring)).trans ?_
  refine (extractStridedSlice_apply _ _ H.sl0 (ix4 a 0 b l) (ix4 a 0 b l) fun i => ?_).trans (group_apply H hg x a 0 b l)
  match i with
  | ⟨0, _⟩ => exact (Nat.zero_add _).symm
  | ⟨1, _⟩ => rfl
  | ⟨2, _⟩ => exact (Nat.zero_add _).symm
  | ⟨3, _⟩ => exact (Nat.zero_add _).symm

/-- The second half of a group, row by row. -/
theorem half1_apply (H : Grp g dr) (hg : g * (2 * dr) = 64) (x : SC.Idx → α) (a : Fin g) (b : Fin dr) (l : Fin 128) :
    half1 H x (ix3 a b l) = x (ix2 (grow hg a 1 b) l) := by
  unfold half1
  refine (shapeCast_apply _ H.hq (ix3 a b l) (ix4 a 0 b l) (by
    rw [Shape.rowMajor_val_four, Shape.rowMajor_val_three]
    show ((a.val * 1 + 0) * dr + b.val) * 128 + l.val = (a.val * dr + b.val) * 128 + l.val
    ring)).trans ?_
  refine (extractStridedSlice_apply _ _ H.sl1 (ix4 a 0 b l) (ix4 a 1 b l) fun i => ?_).trans (group_apply H hg x a 1 b l)
  match i with
  | ⟨0, _⟩ => exact (Nat.zero_add _).symm
  | ⟨1, _⟩ => rfl
  | ⟨2, _⟩ => exact (Nat.zero_add _).symm
  | ⟨3, _⟩ => exact (Nat.zero_add _).symm

theorem join_cast (H : Grp g dr) (hg : g * (2 * dr) = 64) (y : (SG g dr).Idx → α) (a : Fin g) (h : Fin 2) (b : Fin dr) (l : Fin 128) :
    shapeCast SC y H.gc (ix2 (grow hg a h b) l) = y (ix4 a h b l) :=
  shapeCast_apply y H.gc _ _ (by
    rw [Shape.rowMajor_val_four, Shape.rowMajor_val_two]
    show ((a.val * 2 + h.val) * dr + b.val) * 128 + l.val = (a.val * (2 * dr) + (h.val * dr + b.val)) * 128 + l.val
    ring)

theorem quarter_cast (H : Grp g dr) (y : (SQ g dr).Idx → α) (a : Fin g) (b : Fin dr) (l : Fin 128) :
    shapeCast (SH g dr) y H.qh (ix4 a 0 b l) = y (ix3 a b l) :=
  shapeCast_apply y H.qh _ _ (by
    rw [Shape.rowMajor_val_four, Shape.rowMajor_val_three]
    show (a.val * dr + b.val) * 128 + l.val = ((a.val * 1 + 0) * dr + b.val) * 128 + l.val
    ring)

/-- Halves put together, at a row of a first half. -/
theorem join_lo (H : Grp g dr) (hg : g * (2 * dr) = 64) (lo hi : (SQ g dr).Idx → α) (a : Fin g) (b : Fin dr) (l : Fin 128) :
    join H lo hi (ix2 (grow hg a 0 b) l) = lo (ix3 a b l) := by
  unfold join
  rw [join_cast H hg _ a 0 b l]
  refine (concatenate_pair_apply_left 1 _ _ H.cat (ix4 a 0 b l) rfl (ix4 a 0 b l) fun i => ?_).trans (quarter_cast H lo a b l)
  match i with
  | ⟨0, _⟩ => rfl
  | ⟨1, _⟩ => rfl
  | ⟨2, _⟩ => rfl
  | ⟨3, _⟩ => rfl

/-- Halves put together, at a row of a second half. -/
theorem join_hi (H : Grp g dr) (hg : g * (2 * dr) = 64) (lo hi : (SQ g dr).Idx → α) (a : Fin g) (b : Fin dr) (l : Fin 128) :
    join H lo hi (ix2 (grow hg a 1 b) l) = hi (ix3 a b l) := by
  unfold join
  rw [join_cast H hg _ a 1 b l]
  refine (concatenate_pair_apply_right 1 _ _ H.cat (ix4 a 1 b l) rfl rfl (ix4 a 0 b l) (fun i hi => ?_) rfl).trans (quarter_cast H hi a b l)
  match i, hi with
  | ⟨0, _⟩, _ => rfl
  | ⟨1, _⟩, hi => exact absurd rfl hi
  | ⟨2, _⟩, _ => rfl
  | ⟨3, _⟩, _ => rfl

theorem selH_at (H : Grp g dr) (hg : g * (2 * dr) = 64) (up : Up) (x y : FVec Ideal (SQ g dr) .f32) (a : Fin g) (b : Fin dr) (l : Fin 128) :
    up.selH H x y (ix3 a b l) = Scalar.select (up.at (ix2 (grow hg a 0 b) l)) (x (ix3 a b l)) (y (ix3 a b l)) := by
  cases up with
  | s m => show (Scalar.select m x y) _ = Scalar.select m (x _) (y _); unfold Scalar.select; split <;> rfl
  | v m => show Scalar.select (half0 H m (ix3 a b l)) _ _ = Scalar.select (m _) _ _; rw [half0_apply H hg]

end Halves

/-- The halves of a group are the rows with bit `e` clear and set. -/
theorem grow_bits : ∀ (e : Fin 6) (r : Fin 64), (r.val / (2 * 2 ^ e.val)) * (2 * 2 ^ e.val) + (r.val % 2 ^ e.val)
      = (if r.val.testBit e.val then r.val ^^^ 2 ^ e.val else r.val)
    ∧ (r.val / (2 * 2 ^ e.val)) * (2 * 2 ^ e.val) + (2 ^ e.val + r.val % 2 ^ e.val)
      = (if r.val.testBit e.val then r.val else r.val ^^^ 2 ^ e.val) := by decide +kernel

/-- A compare-exchange of half groups is the stage at its distance. -/
theorem rout_ck {g dr e k : Nat} (H : Grp g dr) (he : e < 6) (hdr : dr = 2 ^ e) (hg : g * (2 * dr) = 64) (hk : k ≠ e) {up : Up} {c : Fin 32}
    (hd : Dir up k c) (v : Sq) : rout H up (ck v c) = ck (stg k e v) c := by
  funext j
  obtain ⟨r, l, rfl⟩ : ∃ (r : Fin 64) (l : Fin 128), j = ix2 r l := ⟨j 0, j 1, eq_ix2 j⟩
  have hxlt := xor_lt6 ⟨e, he⟩ r
  simp only at hxlt
  have hpart := partner_row he c r ⟨r.val ^^^ 2 ^ e, hxlt⟩ l rfl
  rw [ck_stg (by omega) hk v c c r ⟨r.val ^^^ 2 ^ e, hxlt⟩ l l hpart, bit_row he]
  have hkb : (pos c ⟨r.val ^^^ 2 ^ e, hxlt⟩ l).val.testBit k = (pos c r l).val.testBit k := by
    rw [← hpart, partner_val (by omega), Nat.testBit_xor, Nat.testBit_two_pow, decide_eq_false (fun h => hk h.symm), Bool.xor_false]
  have hdpos : 0 < dr := by rw [hdr]; exact Nat.two_pow_pos e
  have ha : r.val / (2 * dr) < g := Nat.div_lt_of_lt_mul (by have := r.isLt; rw [Nat.mul_comm]; omega)
  have hb : r.val % dr < dr := Nat.mod_lt _ hdpos
  have hbits := grow_bits ⟨e, he⟩ r
  simp only [← hdr] at hbits
  unfold rout
  cases hbit : r.val.testBit e
  · rw [hbit] at hbits
    have e0 : grow hg ⟨r.val / (2 * dr), ha⟩ 0 ⟨r.val % dr, hb⟩ = r := Fin.ext (by
      refine Eq.trans ?_ (hbits.1.trans (if_neg (fun h => Bool.noConfusion h)))
      show r.val / (2 * dr) * (2 * dr) + (0 * dr + r.val % dr) = _
      rw [Nat.zero_mul, Nat.zero_add])
    have e1 : grow hg ⟨r.val / (2 * dr), ha⟩ 1 ⟨r.val % dr, hb⟩ = ⟨r.val ^^^ 2 ^ e, hxlt⟩ := Fin.ext (by
      refine Eq.trans ?_ (hbits.2.trans ((if_neg (fun h => Bool.noConfusion h)).trans (by rw [hdr])))
      show r.val / (2 * dr) * (2 * dr) + (1 * dr + r.val % dr) = _
      rw [Nat.one_mul])
    have h0 := join_lo H hg (up.selH H (minimumf (half0 H (ck v c)) (half1 H (ck v c))) (maximumf (half0 H (ck v c)) (half1 H (ck v c))))
      (up.selH H (maximumf (half0 H (ck v c)) (half1 H (ck v c))) (minimumf (half0 H (ck v c)) (half1 H (ck v c)))) ⟨r.val / (2 * dr), ha⟩ ⟨r.val % dr, hb⟩ l
    rw [e0] at h0
    rw [h0, selH_at H hg]
    show Scalar.select _ (min (half0 H (ck v c) _) (half1 H (ck v c) _) : EReal) (max (half0 H (ck v c) _) (half1 H (ck v c) _) : EReal) = _
    rw [half0_apply H hg, half1_apply H hg, e0, e1, hd, select_ofBool]
    cases (pos c r l).val.testBit k <;> rfl
  · rw [hbit] at hbits
    have e1 : grow hg ⟨r.val / (2 * dr), ha⟩ 1 ⟨r.val % dr, hb⟩ = r := Fin.ext (by
      refine Eq.trans ?_ (hbits.2.trans (if_pos rfl))
      show r.val / (2 * dr) * (2 * dr) + (1 * dr + r.val % dr) = _
      rw [Nat.one_mul])
    have e0 : grow hg ⟨r.val / (2 * dr), ha⟩ 0 ⟨r.val % dr, hb⟩ = ⟨r.val ^^^ 2 ^ e, hxlt⟩ := Fin.ext (by
      refine Eq.trans ?_ (hbits.1.trans ((if_pos rfl).trans (by rw [hdr])))
      show r.val / (2 * dr) * (2 * dr) + (0 * dr + r.val % dr) = _
      rw [Nat.zero_mul, Nat.zero_add])
    have h0 := join_hi H hg (up.selH H (minimumf (half0 H (ck v c)) (half1 H (ck v c))) (maximumf (half0 H (ck v c)) (half1 H (ck v c))))
      (up.selH H (maximumf (half0 H (ck v c)) (half1 H (ck v c))) (minimumf (half0 H (ck v c)) (half1 H (ck v c)))) ⟨r.val / (2 * dr), ha⟩ ⟨r.val % dr, hb⟩ l
    rw [e1] at h0
    rw [h0, selH_at H hg]
    show Scalar.select _ (max (half0 H (ck v c) _) (half1 H (ck v c) _) : EReal) (min (half0 H (ck v c) _) (half1 H (ck v c) _) : EReal) = _
    rw [half0_apply H hg, half1_apply H hg, e0, e1, hd, select_ofBool, hkb, min_comm, max_comm]
    cases (pos c r l).val.testBit k <;> rfl

/-! ## Chains of stages -/

/-- The stages `n - 1` to 0. -/
def levG {α : Type} (S : Nat → α → α) : Nat → α → α
  | 0, v => v
  | n + 1, v => levG S n (S n v)

/-- The stages `11 + n - 1` to 11. -/
def laneG {α : Type} (S : Nat → α → α) : Nat → α → α
  | 0, v => v
  | n + 1, v => laneG S n (S (11 + n) v)

section Generic
variable {α : Type} (S : Nat → α → α) (v : α)
theorem laneG_succ (n : Nat) : laneG S (n + 1) v = laneG S n (S (11 + n) v) := rfl
theorem levG_one : levG S 1 v = S 0 v := rfl
theorem levG_two : levG S 2 v = S 0 (S 1 v) := rfl
theorem levG_three : levG S 3 v = S 0 (S 1 (S 2 v)) := rfl
theorem levG_four : levG S 4 v = levG S 3 (S 3 v) := rfl
theorem levG_five : levG S 5 v = levG S 3 (S 3 (S 4 v)) := rfl
theorem levG_six : levG S 6 v = levG S 3 (S 3 (S 4 (S 5 v))) := rfl
end Generic

theorem rollR1 (up : Up) (x : Chunk Ideal) : rollR 1#32 63#32 up x = rollR (BitVec.ofNat 32 (2 ^ 0)) (BitVec.ofNat 32 (64 - 2 ^ 0)) up x := rfl
theorem rollR2 (up : Up) (x : Chunk Ideal) : rollR 2#32 62#32 up x = rollR (BitVec.ofNat 32 (2 ^ 1)) (BitVec.ofNat 32 (64 - 2 ^ 1)) up x := rfl
theorem rollR4 (up : Up) (x : Chunk Ideal) : rollR 4#32 60#32 up x = rollR (BitVec.ofNat 32 (2 ^ 2)) (BitVec.ofNat 32 (64 - 2 ^ 2)) up x := rfl

/-- The row stages at distances 1, 2 and 4. -/
theorem roll1_ck {k : Nat} (hk : 1 ≤ k) {up : Up} {c : Fin 32} (hd : Dir up k c) (v : Sq) : rollR 1#32 63#32 up (ck v c) = ck (stg k 0 v) c :=
  (rollR1 up _).trans (rollR_ck (by omega) (by omega) hd v)
theorem roll2_ck {k : Nat} (hk : 2 ≤ k) {up : Up} {c : Fin 32} (hd : Dir up k c) (v : Sq) : rollR 2#32 62#32 up (ck v c) = ck (stg k 1 v) c :=
  (rollR2 up _).trans (rollR_ck (by omega) (by omega) hd v)
theorem roll4_ck {k : Nat} (hk : 3 ≤ k) {up : Up} {c : Fin 32} (hd : Dir up k c) (v : Sq) : rollR 4#32 60#32 up (ck v c) = ck (stg k 2 v) c :=
  (rollR4 up _).trans (rollR_ck (by omega) (by omega) hd v)

/-- The row stages at distances 8, 16 and 32. -/
theorem rout8_ck {k : Nat} (hk : 4 ≤ k) {up : Up} {c : Fin 32} (hd : Dir up k c) (v : Sq) : rout grp8 up (ck v c) = ck (stg k 3 v) c :=
  rout_ck grp8 (by omega) rfl rfl (by omega) hd v
theorem rout16_ck {k : Nat} (hk : 5 ≤ k) {up : Up} {c : Fin 32} (hd : Dir up k c) (v : Sq) : rout grp16 up (ck v c) = ck (stg k 4 v) c :=
  rout_ck grp16 (by omega) rfl rfl (by omega) hd v
theorem rout32_ck {k : Nat} (hk : 6 ≤ k) {up : Up} {c : Fin 32} (hd : Dir up k c) (v : Sq) : rout grp32 up (ck v c) = ck (stg k 5 v) c :=
  rout_ck grp32 (by omega) rfl rfl (by omega) hd v

theorem rows3_ck {k : Nat} (hk : 3 ≤ k) {up : Up} {c : Fin 32} (hd : Dir up k c) (v : Sq) : rows3 up (ck v c) = ck (levG (stg k) 3 v) c := by
  unfold rows3
  rw [roll4_ck hk hd, roll2_ck (by omega) hd, roll1_ck (by omega) hd, levG_three]

theorem rows6_ck {k : Nat} (hk : 6 ≤ k) {up : Up} {c : Fin 32} (hd : Dir up k c) (v : Sq) : rows6 up (ck v c) = ck (levG (stg k) 6 v) c := by
  unfold rows6
  rw [rout32_ck hk hd, rout16_ck (by omega) hd, rout8_ck (by omega) hd, rows3_ck (by omega) hd, levG_six]

theorem lanes_ck {k : Nat} {up : Up} {c : Fin 32} (hd : Dir up k c) : ∀ (n : Nat) (_ : 11 + n ≤ k) (_ : n ≤ 7) (v : Sq),
    lanes up n (ck v c) = ck (laneG (stg k) n v) c
  | 0, _, _, _ => rfl
  | n + 1, h, h', v => by
    unfold lanes
    rw [rollL_ck (by omega) (by omega) hd, lanes_ck hd n (by omega) (by omega), laneG_succ]

/-- Levels 1 to 6 of the whole sequence. -/
def lev16 (v : Sq) : Sq := levG (stg 6) 6 (levG (stg 5) 5 (levG (stg 4) 4 (levG (stg 3) 3 (levG (stg 2) 2 (levG (stg 1) 1 v)))))

theorem chain16_ck {w : BitVec 32} (hw : w.toNat < 32) (v : Sq) : chain16 w (ck v (ci w)) = ck (lev16 v) (ci w) := by
  unfold chain16
  have d1 : Dir (.v (loMask iotaR 2#32)) 1 (ci w) := dir_row (e := 1) (by omega) _
  have d2 : Dir (.v (loMask iotaR 4#32)) 2 (ci w) := dir_row (e := 2) (by omega) _
  have d3 : Dir (.v (loMask iotaR 8#32)) 3 (ci w) := dir_row (e := 3) (by omega) _
  have d4 : Dir (.v (loMask iotaR 16#32)) 4 (ci w) := dir_row (e := 4) (by omega) _
  have d5 : Dir (.v (loMask iotaR 32#32)) 5 (ci w) := dir_row (e := 5) (by omega) _
  have d6 : Dir (upAt 6 w) 6 (ci w) := dir_upAt (by omega) (by omega) hw _ (fun _ => rfl)
  rw [roll1_ck (by omega) d1, roll2_ck (by omega) d2, roll1_ck (by omega) d2, rows3_ck (by omega) d3, rout8_ck (by omega) d4, rows3_ck (by omega) d4,
    rout16_ck (by omega) d5, rout8_ck (by omega) d5, rows3_ck (by omega) d5, rows6_ck (by omega) d6]
  unfold lev16
  rw [levG_five, levG_four, levG_two, levG_one]

end Cert.Proof.Canon

end
-- ==== Proof.Passes.lean ====
/-
  Each loop of the sorting kernel does the network's stages in order, so the kernel leaves the chunks of the sorted sequence.
-/
module

public import proofs.«01_k».proof.Proof.Rows

@[expose] public section

noncomputable section

namespace Cert.Proof.Canon

open Idealize.ShloMosaic Idealize.ShloMosaic.ValueIdx Idealize.ShloMosaic.SortNet

/-! ## A loop that writes every chunk once -/

section Own

variable {F : FTy → Type}

/-- If trip `k` turns the chunks it owns from `A`'s to `B`'s and keeps the others, then `n` trips turn the chunks owned by the first `n`. -/
theorem iterN_own (step : Nat → Arr F → Arr F) (A B : Arr F) (own : Fin 32 → Nat) (N : Nat)
    (h : ∀ k < N, ∀ X : Arr F, (∀ c, own c = k → X c = A c) → ∀ c, step k X c = if own c = k then B c else X c) :
    ∀ n ≤ N, ∀ c, iterN step n A c = if own c < n then B c else A c
  | 0, _, c => (if_neg (Nat.not_lt_zero _)).symm
  | n + 1, hn, c => by
    have ih := iterN_own step A B own N h n (Nat.le_of_succ_le hn)
    show step n (iterN step n A) c = _
    rw [h n hn _ (fun c hc => by rw [ih c, if_neg (by omega)]) c, ih c]
    by_cases h1 : own c = n
    · rw [if_pos h1, if_pos (by omega)]
    · rw [if_neg h1]
      by_cases h2 : own c < n
      · rw [if_pos h2, if_pos (by omega)]
      · rw [if_neg h2, if_neg (by omega)]

theorem iterN_all (step : Nat → Arr F → Arr F) (A B : Arr F) (own : Fin 32 → Nat) (N : Nat) (hown : ∀ c, own c < N)
    (h : ∀ k < N, ∀ X : Arr F, (∀ c, own c = k → X c = A c) → ∀ c, step k X c = if own c = k then B c else X c) : iterN step N A = B :=
  funext fun c => (iterN_own step A B own N h N (le_refl _) c).trans (if_pos (hown c))

theorem putPair_apply (a b : BitVec 32) (x y : Chunk F) (X : Arr F) (c : Fin 32) :
    putPair a b x y X c = if c = ci b then y else if c = ci a then x else X c := by
  unfold putPair
  by_cases hb : c = ci b
  · subst hb; rw [Function.update_self, if_pos rfl]
  · rw [Function.update_of_ne hb, if_neg hb]
    by_cases ha : c = ci a
    · subst ha; rw [Function.update_self, if_pos rfl]
    · rw [Function.update_of_ne ha, if_neg ha]

end Own

/-- The chunks of a sequence. -/
def full (v : Sq) : Arr Ideal := fun c => ck v c

/-- Chunks `a` and `b` are a pair `2 ^ e` apart. -/
def IsPair (e : Nat) (a b : Fin 32) : Prop := b.val = a.val ^^^ 2 ^ e ∧ a.val.testBit e = false
instance (e : Nat) (a b : Fin 32) : Decidable (IsPair e a b) := inferInstanceAs (Decidable (_ ∧ _))

/-- The trip that handles chunk `c` in a loop over pairs `2 ^ b` apart. -/
def ownP (b : Nat) (c : Fin 32) : Nat := ((c.val >>> (b + 1)) <<< b + c.val % 2 ^ b) / 2

theorem ownP_lt : ∀ (b : Fin 5) (c : Fin 32), ownP b.val c < 8 := by decide +kernel

theorem pair_facts : ∀ (b : Fin 5) (k : Fin 8),
    ((c1 b.val (gA k.val)).toNat < 32 ∧ (c2 b.val (gA k.val)).toNat < 32 ∧ (c1 b.val (gB k.val)).toNat < 32 ∧ (c2 b.val (gB k.val)).toNat < 32)
    ∧ (IsPair b.val (ci (c1 b.val (gA k.val))) (ci (c2 b.val (gA k.val))) ∧ IsPair b.val (ci (c1 b.val (gB k.val))) (ci (c2 b.val (gB k.val))))
    ∧ (∀ c : Fin 32, ownP b.val c = k.val ↔ (c = ci (c1 b.val (gA k.val)) ∨ c = ci (c2 b.val (gA k.val)) ∨ c = ci (c1 b.val (gB k.val)) ∨ c = ci (c2 b.val (gB k.val))))
    ∧ (ci (c1 b.val (gB k.val)) ≠ ci (c1 b.val (gA k.val)) ∧ ci (c1 b.val (gB k.val)) ≠ ci (c2 b.val (gA k.val))
      ∧ ci (c2 b.val (gB k.val)) ≠ ci (c1 b.val (gA k.val)) ∧ ci (c2 b.val (gB k.val)) ≠ ci (c2 b.val (gA k.val))) := by decide +kernel

/-- Functions of two chunks that turn every pair of `v`'s chunks `2 ^ e` apart into `w`'s. -/
def Turns (e : Nat) (fa fb : BitVec 32 → BitVec 32 → Chunk Ideal → Chunk Ideal → Chunk Ideal) (v w : Sq) : Prop :=
  ∀ p q : BitVec 32, p.toNat < 32 → q.toNat < 32 → IsPair e (ci p) (ci q) →
    fa p q (ck v (ci p)) (ck v (ci q)) = ck w (ci p) ∧ fb p q (ck v (ci p)) (ck v (ci q)) = ck w (ci q)

/-- A pair replaced, when the functions give `w`'s chunks. -/
theorem pairT_apply {p q : BitVec 32} {fa fb : Chunk Ideal → Chunk Ideal → Chunk Ideal} {v w : Sq} {X : Arr Ideal}
    (hp : X (ci p) = ck v (ci p)) (hq : X (ci q) = ck v (ci q))
    (h : fa (ck v (ci p)) (ck v (ci q)) = ck w (ci p) ∧ fb (ck v (ci p)) (ck v (ci q)) = ck w (ci q)) (c : Fin 32) :
    pairT p q fa fb X c = if c = ci p ∨ c = ci q then ck w c else X c := by
  unfold pairT
  rw [putPair_apply, hp, hq, h.1, h.2]
  by_cases h1 : c = ci q
  · rw [if_pos h1, if_pos (.inr h1), h1]
  · by_cases h2 : c = ci p
    · rw [if_neg h1, if_pos h2, if_pos (.inl h2), h2]
    · rw [if_neg h1, if_neg h2, if_neg (by rintro (h | h); exact h2 h; exact h1 h)]

/-- A loop over pairs turns the chunks of `v` into those of `w`. -/
theorem pairs_full (b : Fin 5) {fa fb : BitVec 32 → BitVec 32 → Chunk Ideal → Chunk Ideal → Chunk Ideal} {v w : Sq} (h : Turns b.val fa fb v w) :
    iterN (pairStep b.val fa fb) 8 (full v) = full w := by
  refine iterN_all _ _ _ (ownP b.val) 8 (ownP_lt b) fun k hk X hX c => ?_
  obtain ⟨⟨l1, l2, l3, l4⟩, ⟨pA, pB⟩, hown, n1, n2, n3, n4⟩ := pair_facts b ⟨k, hk⟩
  simp only at l1 l2 l3 l4 pA pB hown n1 n2 n3 n4
  have hA := pairT_apply (X := X) (hX _ ((hown _).mpr (.inl rfl))) (hX _ ((hown _).mpr (.inr (.inl rfl)))) (h _ _ l1 l2 pA)
  have e1 := (hA (ci (c1 b.val (gB k)))).trans (if_neg (by rintro (h | h); exact n1 h; exact n2 h))
  have e2 := (hA (ci (c2 b.val (gB k)))).trans (if_neg (by rintro (h | h); exact n3 h; exact n4 h))
  have hB := pairT_apply (e1.trans (hX _ ((hown _).mpr (.inr (.inr (.inl rfl)))))) (e2.trans (hX _ ((hown _).mpr (.inr (.inr (.inr rfl)))))) (h _ _ l3 l4 pB) c
  unfold pairStep
  rw [hB, hA c]
  by_cases hc : ownP b.val c = k
  · rw [if_pos hc]
    rcases (hown c).mp hc with h' | h' | h' | h'
    · split
      · rfl
      · rw [if_pos (.inl h')]; rfl
    · split
      · rfl
      · rw [if_pos (.inr h')]; rfl
    · rw [if_pos (.inl h')]; rfl
    · rw [if_pos (.inr h')]; rfl
  · rw [if_neg hc, if_neg fun h' => hc ((hown c).mpr (by rcases h' with h' | h'; exact .inr (.inr (.inl h')); exact .inr (.inr (.inr h')))),
      if_neg fun h' => hc ((hown c).mpr (by rcases h' with h' | h'; exact .inl h'; exact .inr (.inl h')))]

/-! ## The passes over pairs -/

theorem lanes_full {kl n : Nat} (hkl : kl < 19) (hn : n = 0 ∨ 11 + n ≤ kl) (hn7 : n ≤ 7) (w : BitVec 32) (v : Sq) (c : Fin 32) :
    lanes (upAt kl w) n (ck v c) = ck (laneG (stg kl) n v) c := by
  rcases Nat.eq_zero_or_pos n with h | h
  · subst h; rfl
  · exact lanes_ck (dir_lane (by omega) hkl w c) n (by omega) hn7 v

theorem turns_first {kl n e : Nat} (he : e < 5) (h : 6 + e < kl) (hkl : kl < 19) (hn : n = 0 ∨ 11 + n ≤ kl) (hn7 : n ≤ 7) (v : Sq) :
    Turns e (firstA kl n) (firstB kl n) v (stg kl (6 + e) (laneG (stg kl) n v)) := fun p q hp _ hpq => by
  have d : Dir (upAt kl p) kl (ci p) := dir_upAt (by omega) hkl hp _ fun _ => rfl
  unfold firstA firstB
  rw [lanes_full hkl hn hn7, lanes_full hkl hn hn7]
  exact ⟨crossA_ck he (by omega) hpq.1 hpq.2 d _, crossB_ck he (by omega) hpq.1 hpq.2 d _⟩

theorem turns_mid {kl e : Nat} (he : e < 5) (h : 6 + e < kl) (hkl : kl < 19) (v : Sq) :
    Turns e (midA kl) (midB kl) v (stg kl (6 + e) v) := fun p q hp _ hpq => by
  have d : Dir (upAt kl p) kl (ci p) := dir_upAt (by omega) hkl hp _ fun _ => rfl
  exact ⟨crossA_ck he (by omega) hpq.1 hpq.2 d _, crossB_ck he (by omega) hpq.1 hpq.2 d _⟩

theorem turns_last {kl : Nat} (h : 6 < kl) (hkl : kl < 19) (v : Sq) :
    Turns 0 (lastA kl) (lastB kl) v (levG (stg kl) 6 (stg kl 6 v)) := fun p q hp hq hpq => by
  have d : Dir (upAt kl p) kl (ci p) := dir_upAt (by omega) hkl hp _ fun _ => rfl
  have d' : Dir (upAt kl q) kl (ci q) := dir_upAt (by omega) hkl hq _ fun _ => rfl
  have hA := crossA_ck (e := 0) (by omega) (by omega) hpq.1 hpq.2 d v
  have hB := crossB_ck (e := 0) (by omega) (by omega) hpq.1 hpq.2 d v
  unfold lastA lastB
  rw [hA, hB]
  exact ⟨rows6_ck (by omega) d _, rows6_ck (by omega) d' _⟩

/-! ## The passes over groups of four -/

/-- The trip that handles chunk `c` in a loop over groups of four chunks `2 ^ b` apart. -/
def ownQ (b : Nat) (c : Fin 32) : Nat := (c.val >>> (b + 2)) <<< b + c.val % 2 ^ b

theorem ownQ_lt : ∀ (b : Fin 4) (c : Fin 32), ownQ b.val c < 8 := by decide +kernel

theorem quad_facts : ∀ (b : Fin 4) (k : Fin 8),
    (q0 b.val (Scf.iv 0#32 1#32 k.val)).toNat < 32
    ∧ (IsPair (b.val + 1) (ci (q0 b.val (Scf.iv 0#32 1#32 k.val))) (ci (qn 2 b.val (Scf.iv 0#32 1#32 k.val)))
      ∧ IsPair (b.val + 1) (ci (qn 1 b.val (Scf.iv 0#32 1#32 k.val))) (ci (qn 3 b.val (Scf.iv 0#32 1#32 k.val)))
      ∧ IsPair b.val (ci (q0 b.val (Scf.iv 0#32 1#32 k.val))) (ci (qn 1 b.val (Scf.iv 0#32 1#32 k.val)))
      ∧ IsPair b.val (ci (qn 2 b.val (Scf.iv 0#32 1#32 k.val))) (ci (qn 3 b.val (Scf.iv 0#32 1#32 k.val))))
    ∧ (∀ c : Fin 32, ownQ b.val c = k.val ↔ (c = ci (q0 b.val (Scf.iv 0#32 1#32 k.val)) ∨ c = ci (qn 1 b.val (Scf.iv 0#32 1#32 k.val))
      ∨ c = ci (qn 2 b.val (Scf.iv 0#32 1#32 k.val)) ∨ c = ci (qn 3 b.val (Scf.iv 0#32 1#32 k.val)))) := by decide +kernel

/-- Chunks that differ below bit `j` share it. -/
theorem pair_bit {e j : Nat} (hej : e ≠ j) {a b : Fin 32} (h : IsPair e a b) : b.val.testBit j = a.val.testBit j := by
  rw [h.1, Nat.testBit_xor, Nat.testBit_two_pow, decide_eq_false hej, Bool.xor_false]

/-- Four chunks replaced. -/
theorem quadT_apply {kl b : Nat} (hb : b < 4) (h : 6 + (b + 1) < kl) (hkl : kl < 19) {w0 w1 w2 w3 : BitVec 32} (h0 : w0.toNat < 32)
    (p02 : IsPair (b + 1) (ci w0) (ci w2)) (p13 : IsPair (b + 1) (ci w1) (ci w3)) (p01 : IsPair b (ci w0) (ci w1)) (p23 : IsPair b (ci w2) (ci w3))
    {v : Sq} {X : Arr Ideal} (e0 : X (ci w0) = ck v (ci w0)) (e1 : X (ci w1) = ck v (ci w1)) (e2 : X (ci w2) = ck v (ci w2)) (e3 : X (ci w3) = ck v (ci w3))
    (c : Fin 32) :
    quadT kl w0 w1 w2 w3 X c = if c = ci w0 ∨ c = ci w1 ∨ c = ci w2 ∨ c = ci w3 then ck (stg kl (6 + b) (stg kl (6 + (b + 1)) v)) c else X c := by
  have d0 : Dir (upAt kl w0) kl (ci w0) := dir_upAt (by omega) hkl h0 _ fun _ => rfl
  have d1 : Dir (upAt kl w0) kl (ci w1) := dir_upAt (by omega) hkl h0 _ fun _ => pair_bit (by omega) p01
  have d2 : Dir (upAt kl w0) kl (ci w2) := dir_upAt (by omega) hkl h0 _ fun _ => pair_bit (by omega) p02
  unfold quadT
  rw [e0, e1, e2, e3, crossA_ck (by omega) (by omega) p02.1 p02.2 d0, crossB_ck (by omega) (by omega) p02.1 p02.2 d0,
    crossA_ck (by omega) (by omega) p13.1 p13.2 d1, crossB_ck (by omega) (by omega) p13.1 p13.2 d1,
    crossA_ck (by omega) (by omega) p01.1 p01.2 d0, crossB_ck (by omega) (by omega) p01.1 p01.2 d0,
    crossA_ck (by omega) (by omega) p23.1 p23.2 d2, crossB_ck (by omega) (by omega) p23.1 p23.2 d2, putPair_apply, putPair_apply]
  by_cases h3 : c = ci w3
  · rw [if_pos h3, if_pos (.inr (.inr (.inr h3))), h3]
  by_cases h2 : c = ci w2
  · rw [if_neg h3, if_pos h2, if_pos (.inr (.inr (.inl h2))), h2]
  by_cases h1 : c = ci w1
  · rw [if_neg h3, if_neg h2, if_pos h1, if_pos (.inr (.inl h1)), h1]
  by_cases h0 : c = ci w0
  · rw [if_neg h3, if_neg h2, if_neg h1, if_pos h0, if_pos (.inl h0), h0]
  rw [if_neg h3, if_neg h2, if_neg h1, if_neg h0, if_neg (by rintro (h | h | h | h); exact h0 h; exact h1 h; exact h2 h; exact h3 h)]

/-- A loop over groups of four does two stages. -/
theorem quads_full (b : Fin 4) {kl : Nat} (h : 6 + (b.val + 1) < kl) (hkl : kl < 19) (v : Sq) :
    iterN (quadStep kl b.val) 8 (full v) = full (stg kl (6 + b.val) (stg kl (6 + (b.val + 1)) v)) := by
  refine iterN_all _ _ _ (ownQ b.val) 8 (ownQ_lt b) fun k hk X hX c => ?_
  obtain ⟨l0, ⟨p02, p13, p01, p23⟩, hown⟩ := quad_facts b ⟨k, hk⟩
  simp only at l0 p02 p13 p01 p23 hown
  unfold quadStep
  rw [quadT_apply b.isLt h hkl l0 p02 p13 p01 p23 (hX _ ((hown _).mpr (.inl rfl))) (hX _ ((hown _).mpr (.inr (.inl rfl))))
    (hX _ ((hown _).mpr (.inr (.inr (.inl rfl))))) (hX _ ((hown _).mpr (.inr (.inr (.inr rfl))))) c]
  by_cases hc : ownQ b.val c = k
  · rw [if_pos hc, if_pos ((hown c).mp hc)]; rfl
  · rw [if_neg hc, if_neg fun h' => hc ((hown c).mpr h')]

/-! ## The first loop -/

/-- The levels 1 to `n`. -/
def levels {α : Type} (S : Nat → Nat → α → α) : Nat → α → α
  | 0, v => v
  | n + 1, v => levG (S (n + 1)) (n + 1) (levels S n v)

theorem levels_six {α : Type} (S : Nat → Nat → α → α) (v : α) :
    levels S 6 v = levG (S 6) 6 (levG (S 5) 5 (levG (S 4) 4 (levG (S 3) 3 (levG (S 2) 2 (levG (S 1) 1 v))))) := rfl

theorem levels_seven {α : Type} (S : Nat → Nat → α → α) (v : α) : levels S 7 v = levG (S 7) 6 (S 7 6 (levels S 6 v)) := rfl

theorem lev16_eq (v : Sq) : lev16 v = levels stg 6 v := (levels_six stg v).symm

theorem sweep_facts : ∀ k : Fin 16, ((gA k.val).toNat < 32 ∧ (gB k.val).toNat < 32) ∧ IsPair 0 (ci (gA k.val)) (ci (gB k.val))
    ∧ ∀ c : Fin 32, c.val / 2 = k.val ↔ (c = ci (gA k.val) ∨ c = ci (gB k.val)) := by decide +kernel

/-- The first loop does the levels 1 to 7. -/
theorem sweep_full (v : Sq) : sweepFn (full v) = full (levels stg 7 v) := by
  unfold sweepFn
  refine iterN_all _ _ _ (fun c => c.val / 2) 16 (fun c => by have := c.isLt; omega) fun k hk X _ c => ?_
  obtain ⟨⟨l1, l2⟩, p, hown⟩ := sweep_facts ⟨k, hk⟩
  simp only at l1 l2 p hown
  have d : Dir (upAt 7 (gA k)) 7 (ci (gA k)) := dir_upAt (by omega) (by omega) l1 _ fun _ => rfl
  have d' : Dir (upAt 7 (gB k)) 7 (ci (gB k)) := dir_upAt (by omega) (by omega) l2 _ fun _ => rfl
  have hA := crossA_ck (e := 0) (k := 7) (by omega) (by omega) p.1 p.2 d (lev16 v)
  have hB := crossB_ck (e := 0) (k := 7) (by omega) (by omega) p.1 p.2 d (lev16 v)
  unfold sweepStep sweepA sweepB full
  rw [putPair_apply, chain16_ck l1, chain16_ck l2, hA, hB, rows6_ck (by omega) d, rows6_ck (by omega) d', levels_seven, lev16_eq]
  by_cases h2 : c = ci (gB k)
  · rw [if_pos h2, if_pos ((hown c).mpr (.inr h2)), h2]
  by_cases h1 : c = ci (gA k)
  · rw [if_neg h2, if_pos h1, if_pos ((hown c).mpr (.inl h1)), h1]
  rw [if_neg h2, if_neg h1, if_neg (fun h => by rcases (hown c).mp h with h | h; exact h1 h; exact h2 h)]

/-! ## All the passes -/

/-- The stages a pass does. -/
def Pass.val {α : Type} (S : Nat → Nat → α → α) : Pass → α → α
  | .first kl n b, v => S kl (6 + b.val) (laneG (S kl) n v)
  | .mid kl b, v => S kl (6 + b.val) v
  | .last kl, v => levG (S kl) 6 (S kl 6 v)
  | .quad kl b, v => S kl (6 + b.val) (S kl (6 + (b.val + 1)) v)

/-- The stages passes in order do. -/
def passesVal {α : Type} (S : Nat → Nat → α → α) : List Pass → α → α
  | [], v => v
  | p :: ps, v => passesVal S ps (p.val S v)

/-- A pass of a level that has its stages. -/
def Pass.Ok : Pass → Prop
  | .first kl n b => 6 + b.val < kl ∧ kl < 19 ∧ (n = 0 ∨ 11 + n ≤ kl) ∧ n ≤ 7
  | .mid kl b => 6 + b.val < kl ∧ kl < 19
  | .last kl => 6 < kl ∧ kl < 19
  | .quad kl b => 6 + (b.val + 1) < kl ∧ kl < 19

instance (p : Pass) : Decidable p.Ok := by cases p <;> unfold Pass.Ok <;> infer_instance

theorem pass_full : ∀ (p : Pass) (_ : p.Ok) (v : Sq), p.fn (full v) = full (p.val stg v)
  | .first _ _ b, ⟨h, hk, hn, h7⟩, v => pairs_full b (turns_first b.isLt h hk hn h7 v)
  | .mid _ b, ⟨h, hk⟩, v => pairs_full b (turns_mid b.isLt h hk v)
  | .last _, ⟨h, hk⟩, v => pairs_full 0 (turns_last h hk v)
  | .quad _ b, ⟨h, hk⟩, v => quads_full b h hk v

theorem passes_full : ∀ (ps : List Pass) (_ : ∀ p ∈ ps, p.Ok) (v : Sq), passesFn ps (full v) = full (passesVal stg ps v)
  | [], _, _ => rfl
  | p :: ps, h, v => by
    show passesFn ps (p.fn (full v)) = _
    rw [pass_full p (h p List.mem_cons_self), passes_full ps fun q hq => h q (List.mem_cons_of_mem _ hq)]
    rfl

theorem passes_ok : ∀ p ∈ passes, p.Ok := by decide +kernel

/-- The passes after the first seven levels do the levels 8 to 18. -/
theorem passesVal_passes {α : Type} (S : Nat → Nat → α → α) (v : α) : passesVal S passes (levels S 7 v) = levels S 18 v := rfl

/-! ## The network -/

theorem apply_flatMap_range {n : Nat} (f : Nat → Network n) : ∀ (m : Nat) (v : Fin n → EReal),
    Network.apply ((List.range m).reverse.flatMap f) v = levG (fun s v => Network.apply (f s) v) m v
  | 0, _ => rfl
  | m + 1, v => by
    rw [List.range_succ, List.reverse_append, List.flatMap_append, Network.apply_append, apply_flatMap_range f m]
    show levG _ m (Network.apply (f m ++ []) v) = levG _ m (Network.apply (f m) v)
    rw [List.append_nil]

theorem apply_levels : ∀ (n : Nat) (v : Sq), Network.apply (levelsNet 18 false n) v = levels stg n v
  | 0, _ => rfl
  | n + 1, v => by
    rw [levelsNet_succ, Network.apply_append, apply_levels n]
    unfold levelNet
    rw [apply_flatMap_range]
    have e : (fun (s : Nat) (v : Sq) => Network.apply (stage 18 s fun i => decide (i.val &&& 2 ^ (n + 1) = 0) == false) v) = stg (n + 1) :=
      funext fun s => funext fun v => (stg_eq _ _ _).symm
    rw [e]
    rfl

/-- The sorted sequence. -/
def sortSq (v : Sq) : Sq := Network.apply (sortNet 18 false) v

/-- The sorting kernel turns the chunks of a sequence into the chunks of the sequence sorted. -/
theorem kernFn_full (v : Sq) : kernFn (full v) = full (sortSq v) := by
  unfold kernFn
  rw [sweep_full, passes_full passes passes_ok, passesVal_passes]
  unfold sortSq
  rw [sortNet_eq_levelsNet, apply_levels]

end Cert.Proof.Canon

end
-- ==== Proof.BlockVal.lean ====
/-
  The first region's array, element by element: each of the 64 blocks read as one sequence, sorted.
-/
module

public import proofs.«01_k».proof.Proof.Passes
public import proofs.«01_k».proof.Proof.LaunchKI
public import Idealize.ShloMosaic.Lib.Pipeline.ValueKit.Geometry

@[expose] public section

noncomputable section

namespace Cert.Proof.Canon

open Idealize.ShloMosaic Idealize.ShloMosaic.ValueIdx

/-- Row `r`, lane `l` of a block stands at `2048 l + r`. -/
def bpos (r : Fin 2048) (l : Fin 128) : Fin (2 ^ 18) := ⟨2048 * l.val + r.val, by have := r.isLt; have := l.isLt; omega⟩

/-- The row a position stands in. -/
def rowOf (i : Fin (2 ^ 18)) : Fin 2048 := ⟨i.val % 2048, Nat.mod_lt _ (by decide)⟩
/-- The lane a position stands in. -/
def laneOf (i : Fin (2 ^ 18)) : Fin 128 := ⟨i.val / 2048, by have := i.isLt; omega⟩

/-- A block read as one sequence. -/
def seqOf (X : SX.Idx → EReal) : Sq := fun i => X (ix4 0 0 (rowOf i) (laneOf i))

/-- The block's chunks are the sequence's. -/
theorem arrOf_eq_full (X : SX.Idx → EReal) : arrOf (F := Ideal) X = full (seqOf X) := by
  funext c j
  refine (arrOf_apply (F := Ideal) X c j).trans ?_
  show X _ = X _
  refine congrArg X (congrArg₂ (ix4 0 0) (Fin.ext ?_) (Fin.ext ?_))
  · have h0 : (j 0).val < 64 := (j 0).isLt
    have h1 : (j 1).val < 128 := (j 1).isLt
    have hc := c.isLt
    show 64 * c.val + (j 0).val = (2 ^ 11 * (j 1).val + (2 ^ 6 * c.val + (j 0).val)) % 2048
    omega
  · have h0 : (j 0).val < 64 := (j 0).isLt
    have h1 : (j 1).val < 128 := (j 1).isLt
    have hc := c.isLt
    show (j 1).val = (2 ^ 11 * (j 1).val + (2 ^ 6 * c.val + (j 0).val)) / 2048
    omega

/-- A block of given chunks, at an element. -/
theorem unArr_full (v : Sq) (y : SX.Idx) : unArr (F := Ideal) (full v) y = v (bpos (y 2) (y 3)) := by
  show v _ = v _
  refine congrArg v (Fin.ext ?_)
  show 2 ^ 11 * (y 3).val + (2 ^ 6 * ((y 2).val / 64) + (y 2).val % 64) = 2048 * (y 3).val + (y 2).val
  omega

/-- What the sorting kernel makes of a block, at an element. -/
theorem block_sorted (X : SX.Idx → EReal) (y : SX.Idx) :
    unArr (kernFn (arrOf (F := Ideal) X)) y = sortSq (seqOf X) (bpos (y 2) (y 3)) := by
  rw [arrOf_eq_full, kernFn_full, unArr_full]

end Cert.Proof.Canon

namespace Cert.Proof.KI

open Cert.KernelIdeal Cert.KernelIdeal.Gen
open Idealize.ShloMosaic Idealize.ShloMosaic.ValueIdx
open Idealize.ShloMosaic.TcCoe
open Cert.Proof.Canon
open Idealize.ShloMosaic.Pipeline (Dat Cfg Window)

/-- Block `(b, s)` of the stacked array read as one sequence. -/
def seqAt (A : S32x2x2048x128.Idx → EReal) (b : Fin 32) (s : Fin 2) : Sq := fun i => A (ix4 b s (rowOf i) (laneOf i))

/-- The stacked array with each block sorted. -/
def sortedArr (A : S32x2x2048x128.Idx → EReal) : S32x2x2048x128.Idx → EReal :=
  fun y => sortSq (seqAt A (y 0) (y 1)) (bpos (y 2) (y 3))

variable (m : (ℓ : Loc nD τ sig) → Buf (Elt Ideal) ℓ) (c : Dev nD)

/-- The first region's output blocks cover its array. -/
theorem covers0 : (cfg0.win 1).Covers := by
  show win0_1.Covers
  decide +kernel

/-- The first region leaves each block sorted. -/
theorem sorted_eq : sorted m c = sortedArr (V5 m c main_v8) := by
  unfold sorted
  refine (dat0 (Va m) c).arrAt_eq_of_covers 1 (sortedArr (V5 m c main_v8)) covers0 ?_
  intro t _ y
  refine (cast_eq _ _).trans ?_
  show unArr (kernFn (arrOf (F := Ideal) (stg0 (Va m) c t))) y = sortedArr (V5 m c main_v8) ((win0_1.rect t).emb y)
  rw [block_sorted]
  have hy0 : (y 0).val < 1 := (y 0).isLt
  have hy1 : (y 1).val < 1 := (y 1).isLt
  show sortSq (seqOf (stg0 (Va m) c t)) (bpos (y 2) (y 3))
    = sortSq (seqAt (V5 m c main_v8) ((win0_1.rect t).emb y 0) ((win0_1.rect t).emb y 1)) (bpos ((win0_1.rect t).emb y 2) ((win0_1.rect t).emb y 3))
  have hs : seqOf (stg0 (Va m) c t) = seqAt (V5 m c main_v8) ((win0_1.rect t).emb y 0) ((win0_1.rect t).emb y 1) := by
    funext i
    show V5 m c main_v8 ((win0_0.rect t).emb (ix4 0 0 (rowOf i) (laneOf i)))
      = V5 m c main_v8 (ix4 ((win0_1.rect t).emb y 0) ((win0_1.rect t).emb y 1) (rowOf i) (laneOf i))
    refine congrArg (V5 m c main_v8) (funext fun a => Fin.ext ?_)
    match a with
    | ⟨0, _⟩ =>
      refine (win0_0.rect_emb_val t _ 0).trans (Eq.trans ?_ (win0_1.rect_emb_val t y 0).symm)
      show cc0_transform_0 (grid0.coords t) 0 * 1 + 0 = cc0_transform_0 (grid0.coords t) 0 * 1 + (y 0).val
      omega
    | ⟨1, _⟩ =>
      refine (win0_0.rect_emb_val t _ 1).trans (Eq.trans ?_ (win0_1.rect_emb_val t y 1).symm)
      show cc0_transform_0 (grid0.coords t) 1 * 1 + 0 = cc0_transform_0 (grid0.coords t) 1 * 1 + (y 1).val
      omega
    | ⟨2, _⟩ =>
      refine (win0_0.rect_emb_val t _ 2).trans ?_
      show 0 * 2048 + (rowOf i).val = (rowOf i).val
      omega
    | ⟨3, _⟩ =>
      refine (win0_0.rect_emb_val t _ 3).trans ?_
      show 0 * 128 + (laneOf i).val = (laneOf i).val
      omega
  have hp : bpos (y 2) (y 3) = bpos ((win0_1.rect t).emb y 2) ((win0_1.rect t).emb y 3) := by
    refine congrArg₂ bpos (Fin.ext ?_) (Fin.ext ?_)
    · refine Eq.trans ?_ (win0_1.rect_emb_val t y 2).symm
      show (y 2).val = 0 * 2048 + (y 2).val
      omega
    · refine Eq.trans ?_ (win0_1.rect_emb_val t y 3).symm
      show (y 3).val = 0 * 128 + (y 3).val
      omega
  rw [hs, hp]

end Cert.Proof.KI

end
-- ==== Proof.DistVal.lean ====
/-
  The second region's array, element by element: for each batch the sum of the squared differences of its two sorted halves over
  the lanes below 96; and that sum over the positions of a row.
-/
module

public import proofs.«01_k».proof.Proof.BlockVal
public import Idealize.ShloMosaic.PureOps.Ideal.Laws

@[expose] public section

noncomputable section

namespace Cert.Proof.KI

open Cert.KernelIdeal Cert.KernelIdeal.Gen
open Idealize.ShloMosaic Idealize.ShloMosaic.ValueIdx
open Idealize.ShloMosaic.TcCoe
open Cert.Proof.Canon
open Idealize.ShloMosaic.Pipeline (Dat Cfg Window)

/-- A rank-2 index read as a rank-3 index with a leading unit axis. -/
def unitEquiv : S2048x128.Idx ≃ S1x2048x128.Idx where
  toFun j := ix3 0 (j 0) (j 1)
  invFun i := ix2 (i 1) (i 2)
  left_inv j := (eq_ix2 j).symm
  right_inv i := by
    funext a
    match a with
    | ⟨0, _⟩ => have : (i 0).val < 1 := (i 0).isLt; exact Fin.ext (show 0 = (i 0).val by omega)
    | ⟨1, _⟩ => rfl
    | ⟨2, _⟩ => rfl

/-- The difference of the two halves of a block at a row and a lane: zero from lane 96 on. -/
def gap (X : S1x2x2048x128.Idx → EReal) (r : Fin 2048) (l : Fin 128) : EReal :=
  if l.val < 96 then X (ix4 0 0 r l) - X (ix4 0 1 r l) else 0

/-- The comparison of a lane with 96. -/
theorem lane_word : ∀ l : Fin 128, IntOp.cmpi .slt (BitVec.ofNat 32 l.val) 96#32 = BitVec.ofBool (decide (l.val < 96)) := by decide +kernel

/-- A half of a block, at an element. -/
theorem half_apply (X : S1x2x2048x128.Idx → EReal) (b : Nat) (hlt : b < 2)
    (hb : ∀ a, (![0, b, 0, 0] : Fin 4 → Nat) a + S1x1x2048x128.size a ≤ S1x2x2048x128.size a) (r : Fin 2048) (l : Fin 128) :
    shapeCast S2048x128 (fun x => X ((Rect.unit (s := S1x2x2048x128) ![0, b, 0, 0] S1x1x2048x128.size hb).idx x) : S1x1x2048x128.Idx → EReal)
      shapeCasts_S1x1x2048x128_S2048x128 (ix2 r l) = X (ix4 0 ⟨b, hlt⟩ r l) := by
  rw [shapeCast_apply _ shapeCasts_S1x1x2048x128_S2048x128 (ix2 r l) (ix4 0 0 r l) (by
    rw [Shape.rowMajor_val_four, Shape.rowMajor_val_two]
    show ((0 * 1 + 0) * 2048 + r.val) * 128 + l.val = r.val * 128 + l.val
    omega)]
  refine congrArg X (funext fun a => Fin.ext ?_)
  match a with
  | ⟨0, _⟩ => rfl
  | ⟨1, _⟩ => show b + 1 * 0 = b; omega
  | ⟨2, _⟩ => show 0 + 1 * r.val = r.val; omega
  | ⟨3, _⟩ => show 0 + 1 * l.val = l.val; omega

/-- The sum of the squares of an array whose elements are the differences. -/
theorem squares_sum (X : S1x2x2048x128.Idx → EReal) (d : FVec Ideal S2048x128 .f32) (hd : ∀ r l, d (ix2 r l) = gap X r l) (j : S1.Idx) :
    multiReduction (F := Ideal) .add [1, 2] S1 (shapeCast S1x2048x128 (mulf d d) shapeCasts_S2048x128_S1x2048x128) 0x00000000#32
      reduces_S1x2048x128_S1 (.inl rfl) rfl j = ∑ r : Fin 2048, ∑ l : Fin 128, gap X r l * gap X r l := by
  refine (Ideal.multiReduction_add_total _ _ _ (by decide) _ _ j).trans ?_
  rw [← Equiv.sum_comp unitEquiv, sum_idx2]
  refine Finset.sum_congr rfl fun r _ => Finset.sum_congr rfl fun l _ => ?_
  refine (shapeCast_apply (mulf d d) shapeCasts_S2048x128_S1x2048x128 (ix3 0 r l) (ix2 r l) (by
    rw [Shape.rowMajor_val_three, Shape.rowMajor_val_two]
    show r.val * 128 + l.val = (0 * 2048 + r.val) * 128 + l.val
    omega)).trans ?_
  show (d (ix2 r l) * d (ix2 r l) : EReal) = _
  rw [hd]

/-- The chosen difference at an element. -/
theorem chosen_apply (X : S1x2x2048x128.Idx → EReal) (a b : FVec Ideal S2048x128 .f32) (ha : ∀ r l, a (ix2 r l) = X (ix4 0 0 r l))
    (hb : ∀ r l, b (ix2 r l) = X (ix4 0 1 r l)) (r : Fin 2048) (l : Fin 128) :
    (select (cmpi .slt (iota .tc S2048x128 32 [1] iota_S2048x128_d1_w32) (broadcast S2048x128 96#32)) (subf a b)
      (broadcast S2048x128 (Scalar.ofBits .f32 0x00000000#32 : Ideal .f32)) : FVec Ideal S2048x128 .f32) (ix2 r l) = gap X r l := by
  have hi : iota .tc S2048x128 32 [1] iota_S2048x128_d1_w32 (ix2 r l) = BitVec.ofNat 32 l.val := iota_single_apply .tc S2048x128 32 1 _ _
  show Scalar.select (IntOp.cmpi .slt (iota .tc S2048x128 32 [1] iota_S2048x128_d1_w32 (ix2 r l)) 96#32)
    (a (ix2 r l) - b (ix2 r l) : EReal) (Ideal.ofBits .f32 0x00000000#32) = gap X r l
  rw [hi, lane_word, Ideal.ofBits_zero_f32, ha, hb]
  unfold gap
  by_cases h : l.val < 96
  · rw [if_pos h, decide_eq_true h]; rfl
  · rw [if_neg h, decide_eq_false h]; rfl

/-- A value spread over the output block, at any element. -/
theorem spread_apply (s : FVec Ideal S1 .f32) (v : EReal) (hs : ∀ j, s j = v) (y : S1x8x128.Idx) :
    shapeCast S1x8x128 (broadcast S8x128 (extractAt ![0, 0, 0] (shapeCast S1x1x1 s shapeCasts_S1_S1x1x1) inpos_S1x1x1_p0_0_0))
      shapeCasts_S8x128_S1x8x128 y = v := hs _

/-- What the second body makes of a block, at any element. -/
theorem dn_apply (X : S1x2x2048x128.Idx → EReal) (y : S1x8x128.Idx) :
    dn (F := Ideal) X y = ∑ r : Fin 2048, ∑ l : Fin 128, gap X r l * gap X r l := by
  unfold dn
  refine spread_apply _ _ (squares_sum X _ (chosen_apply X _ _ ?_ ?_)) y
  · exact half_apply X 0 (by decide) inb_S1x2x2048x128_S1x1x2048x128_0_0_0_0
  · exact half_apply X 1 (by decide) inb_S1x2x2048x128_S1x1x2048x128_0_1_0_0

/-- The squared distance of the two halves of batch `b` of a sorted array. -/
def distAt (A : S32x2x2048x128.Idx → EReal) (b : Fin 32) : EReal :=
  ∑ r : Fin 2048, ∑ l : Fin 128,
    (if l.val < 96 then A (ix4 b 0 r l) - A (ix4 b 1 r l) else 0) * (if l.val < 96 then A (ix4 b 0 r l) - A (ix4 b 1 r l) else 0)

variable (m : (ℓ : Loc nD τ sig) → Buf (Elt Ideal) ℓ) (c : Dev nD)

/-- The second region's output blocks cover its array. -/
theorem covers1 : (cfg1.win 1).Covers := by
  show win1_1.Covers
  decide +kernel

/-- The second region is entered with the sorted array. -/
theorem Vb_v9 : Vb m c main_v9 = sortedArr (V5 m c main_v8) := by
  refine Eq.trans ?_ (sorted_eq m c)
  exact Function.update_self _ _ _

/-- The second region leaves the squared distances. -/
theorem dists_eq : dists m c = fun y : S32x8x128.Idx => distAt (sortedArr (V5 m c main_v8)) (y 0) := by
  unfold dists
  refine (dat1 (Vb m) c).arrAt_eq_of_covers 1 (fun y : S32x8x128.Idx => distAt (sortedArr (V5 m c main_v8)) (y 0)) covers1 ?_
  intro t _ y
  refine (cast_eq _ _).trans ?_
  show dn (F := Ideal) (stg1 (Vb m) c t) y = distAt (sortedArr (V5 m c main_v8)) ((win1_1.rect t).emb y 0)
  rw [dn_apply]
  unfold distAt
  have hy0 : (y 0).val < 1 := (y 0).isLt
  have hx : ∀ s r l, stg1 (Vb m) c t (ix4 0 s r l) = sortedArr (V5 m c main_v8) (ix4 ((win1_1.rect t).emb y 0) s r l) := by
    intro s r l
    show Vb m c main_v9 ((win1_0.rect t).emb (ix4 0 s r l)) = _
    rw [Vb_v9]
    refine congrArg (sortedArr (V5 m c main_v8)) (funext fun a => Fin.ext ?_)
    match a with
    | ⟨0, _⟩ =>
      refine (win1_0.rect_emb_val t _ 0).trans (Eq.trans ?_ (win1_1.rect_emb_val t y 0).symm)
      show cc1_transform_0 (grid1.coords t) 0 * 1 + 0 = cc1_transform_0 (grid1.coords t) 0 * 1 + (y 0).val
      omega
    | ⟨1, _⟩ =>
      refine (win1_0.rect_emb_val t _ 1).trans ?_
      show 0 * 2 + s.val = s.val
      omega
    | ⟨2, _⟩ =>
      refine (win1_0.rect_emb_val t _ 2).trans ?_
      show 0 * 2048 + r.val = r.val
      omega
    | ⟨3, _⟩ =>
      refine (win1_0.rect_emb_val t _ 3).trans ?_
      show 0 * 128 + l.val = l.val
      omega
  refine Finset.sum_congr rfl fun r _ => Finset.sum_congr rfl fun l _ => ?_
  unfold gap
  rw [hx 0, hx 1]

/-- A sum over the rows and lanes of a block that vanishes from lane 96 on is the sum over the positions of a row. -/
theorem sum_block (f : Fin 2048 → Fin 128 → EReal) (h : Fin 196608 → EReal)
    (hin : ∀ (r : Fin 2048) (l : Fin 96), f r (l.castAdd 32) = h ⟨2048 * l.val + r.val, by have := r.isLt; have := l.isLt; omega⟩)
    (hout : ∀ (r : Fin 2048) (l : Fin 32), f r (l.natAdd 96) = 0) :
    ∑ r, ∑ l, f r l = ∑ k, h k := by
  have h1 : ∀ r, ∑ l : Fin 128, f r l = ∑ l : Fin 96, h ⟨2048 * l.val + r.val, by have := r.isLt; have := l.isLt; omega⟩ := by
    intro r
    refine (Fin.sum_univ_add (a := 96) (b := 32) (f r)).trans ?_
    rw [Finset.sum_congr rfl fun l _ => hin r l, Finset.sum_eq_zero fun l _ => hout r l, add_zero]
  rw [Finset.sum_congr rfl fun r _ => h1 r, Finset.sum_comm, ← Fintype.sum_prod_type']
  refine Fintype.sum_equiv (finProdFinEquiv (m := 96) (n := 2048)) _ _ ?_
  rintro ⟨l, r⟩
  refine congrArg h (Fin.ext ?_)
  show 2048 * l.val + r.val = r.val + 2048 * l.val
  omega

end Cert.Proof.KI

end
-- ==== Proof.SortVal.lean ====
module

public import proofs.«01_k».proof.Proof.Passes
public import proofs.«01_k».proof.ReferenceIdeal
public import Idealize.ShloMosaic.Lib.SortFacts
public import Mathlib.Data.List.FinRange

/-! A row of the reference's sort against the sorting network: the row, followed by infinities up to a power of two, sorted
    by the network is the row sorted by the reference, followed by the same infinities. -/

@[expose] public section

noncomputable section

namespace Cert.Proof.Canon

open Idealize.ShloMosaic Idealize.ShloMosaic.ValueIdx Idealize.ShloMosaic.SortNet

/-- A row of 196608 values followed by infinities. -/
def ext (w : Fin 196608 → EReal) : Sq := fun i => if h : i.val < 196608 then w ⟨i.val, h⟩ else ⊤

/-- Inside the row. -/
theorem ext_of_lt (w : Fin 196608 → EReal) (i : Fin (2 ^ 18)) (h : i.val < 196608) : ext w i = w ⟨i.val, h⟩ := dif_pos h

/-- After the row. -/
theorem ext_of_ge (w : Fin 196608 → EReal) (i : Fin (2 ^ 18)) (h : ¬ i.val < 196608) : ext w i = ⊤ := dif_neg h

/-- A rearrangement of the row, as a rearrangement of the longer sequence that leaves the infinities alone. -/
def extMap (f : Fin 196608 → Fin 196608) (i : Fin (2 ^ 18)) : Fin (2 ^ 18) :=
  if h : i.val < 196608 then ⟨(f ⟨i.val, h⟩).val, by have := (f ⟨i.val, h⟩).isLt; omega⟩ else i

/-- It is one to one if the row's is. -/
theorem extMap_injective {f : Fin 196608 → Fin 196608} (hf : Function.Injective f) : Function.Injective (extMap f) := by
  intro i j e
  have e' := congrArg Fin.val e
  unfold extMap at e'
  by_cases hi : i.val < 196608 <;> by_cases hj : j.val < 196608
  · rw [dif_pos hi, dif_pos hj] at e'
    have := congrArg Fin.val (hf (Fin.ext e'))
    exact Fin.ext this
  · rw [dif_pos hi, dif_neg hj] at e'
    have h1 : (f ⟨i.val, hi⟩).val < 196608 := (f ⟨i.val, hi⟩).isLt
    have h2 : (f ⟨i.val, hi⟩).val = j.val := e'
    omega
  · rw [dif_neg hi, dif_pos hj] at e'
    have h1 : (f ⟨j.val, hj⟩).val < 196608 := (f ⟨j.val, hj⟩).isLt
    have h2 : i.val = (f ⟨j.val, hj⟩).val := e'
    omega
  · rw [dif_neg hi, dif_neg hj] at e'
    exact Fin.ext e'

/-- The longer sequence of the rearranged row is the longer sequence rearranged. -/
theorem ext_comp (w : Fin 196608 → EReal) (f : Fin 196608 → Fin 196608) : ext (w ∘ f) = ext w ∘ extMap f := by
  funext i
  rw [Function.comp_apply]
  by_cases h : i.val < 196608
  · have hm : extMap f i = ⟨(f ⟨i.val, h⟩).val, by have := (f ⟨i.val, h⟩).isLt; omega⟩ := dif_pos h
    rw [hm, ext_of_lt _ _ h, ext_of_lt _ _ (f ⟨i.val, h⟩).isLt]
    rfl
  · have hm : extMap f i = i := dif_neg h
    rw [hm, ext_of_ge _ _ h, ext_of_ge _ _ h]

/-- A sorted row followed by infinities is sorted. -/
theorem ext_monotone {w : Fin 196608 → EReal} (hw : Monotone w) : Monotone (ext w) := by
  intro i j hij
  by_cases hj : j.val < 196608
  · have hi : i.val < 196608 := lt_of_le_of_lt (Fin.le_def.mp hij) hj
    rw [ext_of_lt _ _ hi, ext_of_lt _ _ hj]
    exact hw (Fin.le_def.mpr (Fin.le_def.mp hij))
  · rw [ext_of_ge _ j hj]
    exact le_top

/-- Two sorted rearrangements of the same values are the same. -/
theorem monotone_unique {n : Nat} {f : Fin n → EReal} {σ τ : Equiv.Perm (Fin n)} (hσ : Monotone (f ∘ σ)) (hτ : Monotone (f ∘ τ)) :
    f ∘ σ = f ∘ τ := by
  refine List.ofFn_injective (List.Perm.eq_of_pairwise (le := (· ≤ ·)) (fun a b _ _ h1 h2 => le_antisymm h1 h2) ?_ ?_
    ((Equiv.Perm.ofFn_comp_perm σ f).trans (Equiv.Perm.ofFn_comp_perm τ f).symm))
  · exact List.pairwise_ofFn.mpr fun i j h => hσ (le_of_lt h)
  · exact List.pairwise_ofFn.mpr fun i j h => hτ (le_of_lt h)

/-- The network sorts a row followed by infinities into any sorted rearrangement of the row, followed by infinities. -/
theorem sortSq_ext (w : Fin 196608 → EReal) (f : Fin 196608 → Fin 196608) (hf : Function.Injective f) (hm : Monotone (w ∘ f)) :
    sortSq (ext w) = ext (w ∘ f) := by
  obtain ⟨σ, hσ⟩ := Network.exists_perm (sortNet 18 false) (ext w)
  have hs : Monotone (ext w ∘ σ) := hσ ▸ sortNet_apply_monotone 18 (ext w)
  have ht : Monotone (ext w ∘ Equiv.ofBijective (extMap f) (Finite.injective_iff_bijective.mp (extMap_injective hf))) := by
    have h := ext_monotone hm
    rw [ext_comp] at h
    exact h
  have e := monotone_unique hs ht
  unfold sortSq
  rw [hσ, e, ext_comp]
  rfl

/-- The reference's comparison is the order. -/
theorem comparator_eq (l r : Ideal .f32) :
    (Cert.ReferenceIdeal.comparator_f32_d1 l r == 1#1) = decide ((show EReal from l) < (show EReal from r)) := by
  have hsel : ∀ x : Ideal .f32, Scalar.select (FloatOps.cmpf .une x x) (FloatOps.ofBits .f32 0x7FC00000#32)
      (Scalar.select (FloatOps.cmpf .oeq x (FloatOps.ofBits .f32 0x00000000#32)) (FloatOps.ofBits .f32 0x00000000#32) x) = x := by
    intro x
    have h1 : FloatOps.cmpf .une x x = 0#1 := by
      show BitVec.ofBool (decide ((show EReal from x) ≠ x)) = 0#1
      rw [decide_eq_false (fun h => h rfl)]
      rfl
    rw [h1]
    show (if BitVec.ofBool (decide ((show EReal from x) = (FloatOps.ofBits .f32 0x00000000#32 : Ideal .f32))) = 1#1
      then (FloatOps.ofBits .f32 0x00000000#32 : Ideal .f32) else x) = x
    by_cases h : (show EReal from x) = (FloatOps.ofBits .f32 0x00000000#32 : Ideal .f32)
    · rw [decide_eq_true h, if_pos (show BitVec.ofBool true = 1#1 from rfl)]
      exact h.symm
    · rw [decide_eq_false h, if_neg (by decide)]
  have h : Cert.ReferenceIdeal.comparator_f32_d1 l r = FloatOps.cmpfTotal .lt l r := by
    unfold Cert.ReferenceIdeal.comparator_f32_d1
    simp only [hsel]
  rw [h]
  show (BitVec.ofBool (decide ((show EReal from l) < (show EReal from r))) == 1#1) = _
  cases decide ((show EReal from l) < (show EReal from r)) <;> rfl

/-- A row of the reference's sorted array, followed by infinities, is the network's sort of the row followed by infinities. -/
theorem sortSq_row (x : (⟨2, ![32, 196608]⟩ : Shape).Idx → EReal) (b : Fin 32) :
    sortSq (ext fun k => x (ix2 b k))
      = ext fun k => Host.sort ⟨2, ![32, 196608]⟩ 1 (Cert.ReferenceIdeal.comparator_f32_d1 (F := Ideal)) x (ix2 b k) := by
  let B : Fin 196608 → Fin 196608 → Bool := fun k k' => decide (x (ix2 b k) < x (ix2 b k'))
  have hB : ∀ k, Host.sort ⟨2, ![32, 196608]⟩ 1 (Cert.ReferenceIdeal.comparator_f32_d1 (F := Ideal)) x (ix2 b k)
      = x (ix2 b (sortedFrom B k)) := by
    intro k
    have hal : ∀ j : Fin 196608, Shape.Idx.along (s := ⟨2, ![32, 196608]⟩) (ix2 b k) 1 j = ix2 b j := by
      intro j
      funext a
      match a with
      | ⟨0, _⟩ => rfl
      | ⟨1, _⟩ => rfl
    unfold Host.sort
    rw [dif_pos (show 1 < (⟨2, ![32, 196608]⟩ : Shape).rank from by decide)]
    show x (Shape.Idx.along (s := ⟨2, ![32, 196608]⟩) (ix2 b k) 1 (sortedFrom (fun p q => Cert.ReferenceIdeal.comparator_f32_d1 (F := Ideal)
      (x (Shape.Idx.along (s := ⟨2, ![32, 196608]⟩) (ix2 b k) 1 p)) (x (Shape.Idx.along (s := ⟨2, ![32, 196608]⟩) (ix2 b k) 1 q)) == 1#1) k)) = _
    have hR : (fun p q : Fin 196608 => Cert.ReferenceIdeal.comparator_f32_d1 (F := Ideal)
        (x (Shape.Idx.along (s := ⟨2, ![32, 196608]⟩) (ix2 b k) 1 p)) (x (Shape.Idx.along (s := ⟨2, ![32, 196608]⟩) (ix2 b k) 1 q)) == 1#1) = B :=
      funext fun p => funext fun q => by
        refine (comparator_eq _ _).trans ?_
        show decide (x _ < x _) = decide (x _ < x _)
        exact congrArg₂ (fun i j => decide (x i < x j)) (hal p) (hal q)
    refine Eq.trans (congrArg (fun R => x (Shape.Idx.along (s := ⟨2, ![32, 196608]⟩) (ix2 b k) 1 (sortedFrom R k))) hR) ?_
    exact congrArg x (hal _)
  have e : (fun k => Host.sort ⟨2, ![32, 196608]⟩ 1 (Cert.ReferenceIdeal.comparator_f32_d1 (F := Ideal)) x (ix2 b k))
      = (fun k => x (ix2 b k)) ∘ sortedFrom B := funext hB
  rw [e]
  refine sortSq_ext _ _ (sortedFrom_injective B) ?_
  intro i j hij
  rcases eq_or_lt_of_le hij with rfl | hlt
  · exact le_refl _
  · have h := sortedFrom_noInversion B B ?_ (fun _ _ h => h) ?_ i j hlt
    · exact not_lt.mp (of_decide_eq_false h)
    · intro a c h
      exact decide_eq_false (not_lt.mpr (le_of_lt (of_decide_eq_true h)))
    · intro a c d h1 h2
      exact decide_eq_false (not_lt.mpr (le_trans (not_lt.mp (of_decide_eq_false h2)) (not_lt.mp (of_decide_eq_false h1))))

end Cert.Proof.Canon

end
-- ==== Proof.HostVal.lean ====
/-
  What the host program does before the first region and after the second, as values: the stacked array's blocks are the rows of
  the two arguments followed by infinities; the result is the mean of the square roots.
-/
module

public import proofs.«01_k».proof.Proof.DistVal
public import proofs.«01_k».proof.Proof.SortVal
public import proofs.«01_k».proof.Proof.Gen.ReferenceIdeal
public import Idealize.ShloMosaic.Lib.Pointwise.Reduce
public import Idealize.ShloMosaic.Lib.StableHlo.Run
public import Idealize.ShloMosaic.Lib.KernelVsHost

@[expose] public section

noncomputable section

namespace Cert.Proof.KI

open Cert.KernelIdeal Cert.KernelIdeal.Gen
open Idealize.ShloMosaic hiding ix1 ix2 ix3 ix4 ix5 eq_ix1 eq_ix2 eq_ix3 eq_ix4
open Idealize.ShloMosaic.ValueIdx
open Idealize.ShloMosaic.TcCoe Idealize.ShloMosaic.StableHlo
open Cert.Proof.Canon

variable (m : (ℓ : Loc nD τ sig) → Buf (Elt Ideal) ℓ) (c : Dev nD)

/-- An argument laid out for the sort: cut into 96 pieces of 2048, one per lane, and filled up with infinities to 128 lanes. -/
def laid (x : S32x65536x3.Idx → EReal) : S32x2048x128.Idx → EReal :=
  pad S32x2048x128 ![0, 0, 0] ![0, 0, 32] ![0, 0, 0]
    (transpose S32x2048x96 [0, 2, 1] (shapeCast S32x96x2048 x shapeCasts_S32x65536x3_S32x96x2048) transposes_S32x96x2048_S32x2048x96_0_2_1)
    (constant (F := Ideal) S_ .f32 0x7F800000#32) pads_S32x2048x96_S32x2048x128_000_000_0320 h_S_

/-- The two arguments stacked. -/
def stacked (x y : S32x65536x3.Idx → EReal) : S32x2x2048x128.Idx → EReal :=
  concatenate S32x2x2048x128 1
    [⟨S32x1x2048x128, broadcastInDim S32x1x2048x128 ![0, 2, 3] bcast_S32x2048x128_S32x1x2048x128_0_2_3 (laid x)⟩,
     ⟨S32x1x2048x128, broadcastInDim S32x1x2048x128 ![0, 2, 3] bcast_S32x2048x128_S32x1x2048x128_0_2_3 (laid y)⟩]
    concatenates_S32x1x2048x128_S32x1x2048x128_S32x2x2048x128_d1

/-- The first region is entered with the two arguments stacked. -/
theorem V5_v8 : V5 m c main_v8 = stacked (m ((c.tc : Thread nD τ).loc main_arg0)) (m ((c.tc : Thread nD τ).loc main_arg1)) := by
  simp only [V5, V4, V3, V2, V1, hostOps0, hostOps0_1, hostOps0_2, hostOps0_3, hostOps0_4, TRef.binary, TRef.nullary, TRef.unary, TRef.toBuf, TRef.ofBuf, cast_eq]
  after_results <;> rfl

/-- An argument as 32 rows. -/
def flat (x : S32x65536x3.Idx → EReal) : (⟨2, ![32, 196608]⟩ : Shape).Idx → EReal :=
  shapeCast _ x Cert.ReferenceIdeal.Gen.shapeCasts_S32x65536x3_S32x196608

/-- The rows, at an element. -/
theorem flat_apply (x : S32x65536x3.Idx → EReal) (b : Fin 32) (k : Fin 196608) :
    flat x (ix2 b k) = x (ix3 b ⟨k.val / 3, by have := k.isLt; omega⟩ ⟨k.val % 3, Nat.mod_lt _ (by decide)⟩) := by
  unfold flat
  refine shapeCast_apply _ _ _ _ ?_
  rw [Shape.rowMajor_val_three, Shape.rowMajor_val_two]
  show (b.val * 65536 + k.val / 3) * 3 + k.val % 3 = b.val * 196608 + k.val
  omega

/-- The accumulator of the fill is infinity. -/
theorem fill_top : Ideal.ofBits .f32 0x7F800000#32 = ⊤ := by
  simp [Ideal.ofBits, Ideal.ieee]

/-- The layout below lane 96. -/
theorem laid_of_lt (x : S32x65536x3.Idx → EReal) (b : Fin 32) (r : Fin 2048) (l : Fin 128) (h : l.val < 96) :
    laid x (ix3 b r l) = flat x (ix2 b ⟨2048 * l.val + r.val, by have := r.isLt; omega⟩) := by
  unfold laid
  rw [flat_apply]
  refine (pad_apply_of_inside _ _ _ _ _ _ _ _ (ix3 b r ⟨l.val, h⟩) ?_).trans ?_
  · intro a
    match a with
    | ⟨0, _⟩ => show b.val = 0 + b.val * 1; omega
    | ⟨1, _⟩ => show r.val = 0 + r.val * 1; omega
    | ⟨2, _⟩ => show l.val = 0 + l.val * 1; omega
  refine (transpose_apply _ _ _ _ (ix3 b ⟨l.val, h⟩ r) ?_).trans ?_
  · intro a
    match a with
    | ⟨0, _⟩ => rfl
    | ⟨1, _⟩ => rfl
    | ⟨2, _⟩ => rfl
  refine shapeCast_apply _ _ _ _ ?_
  rw [Shape.rowMajor_val_three, Shape.rowMajor_val_three]
  have hr := r.isLt
  show (b.val * 65536 + (2048 * l.val + r.val) / 3) * 3 + (2048 * l.val + r.val) % 3 = (b.val * 96 + l.val) * 2048 + r.val
  omega

/-- The layout from lane 96 on. -/
theorem laid_of_ge (x : S32x65536x3.Idx → EReal) (b : Fin 32) (r : Fin 2048) (l : Fin 128) (h : ¬ l.val < 96) :
    laid x (ix3 b r l) = ⊤ := by
  unfold laid
  refine (pad_apply_of_not_inside _ _ _ _ _ _ _ _ 2 ?_).trans fill_top
  rintro ⟨_, _, h3⟩
  have h3' : (l.val - 0) / (0 + 1) < 96 := h3
  omega

/-- A block of the stacked array, as a sequence: the row followed by infinities. -/
theorem laid_seq (x : S32x65536x3.Idx → EReal) (b : Fin 32) (i : Fin (2 ^ 18)) :
    laid x (ix3 b (rowOf i) (laneOf i)) = ext (fun k => flat x (ix2 b k)) i := by
  have hi : i.val < 262144 := i.isLt
  by_cases h : i.val < 196608
  · have hl : (laneOf i).val < 96 := by show i.val / 2048 < 96; omega
    rw [laid_of_lt _ _ _ _ hl, ext_of_lt _ _ h]
    refine congrArg (flat x) (congrArg (ix2 b) (Fin.ext ?_))
    show 2048 * (i.val / 2048) + i.val % 2048 = i.val
    omega
  · have hl : ¬ (laneOf i).val < 96 := by show ¬ i.val / 2048 < 96; omega
    rw [laid_of_ge _ _ _ _ hl, ext_of_ge _ _ h]

/-- The stacked array's first halves. -/
theorem stacked_left (x y : S32x65536x3.Idx → EReal) (b : Fin 32) (r : Fin 2048) (l : Fin 128) :
    stacked x y (ix4 b 0 r l) = laid x (ix3 b r l) := by
  unfold stacked
  refine (concatenate_pair_apply_left (t := S32x2x2048x128) (s₁ := S32x1x2048x128) (s₂ := S32x1x2048x128) 1 _ _ _ _ rfl (ix4 b 0 r l : S32x1x2048x128.Idx) ?_).trans ?_
  · intro a
    match a with
    | ⟨0, _⟩ => rfl
    | ⟨1, _⟩ => rfl
    | ⟨2, _⟩ => rfl
    | ⟨3, _⟩ => rfl
  refine broadcastInDim_apply _ _ _ _ (ix3 b r l) ?_
  intro a
  match a with
  | ⟨0, _⟩ => rfl
  | ⟨1, _⟩ => rfl
  | ⟨2, _⟩ => rfl

/-- The stacked array's second halves. -/
theorem stacked_right (x y : S32x65536x3.Idx → EReal) (b : Fin 32) (r : Fin 2048) (l : Fin 128) :
    stacked x y (ix4 b 1 r l) = laid y (ix3 b r l) := by
  unfold stacked
  refine (concatenate_pair_apply_right (t := S32x2x2048x128) (s₁ := S32x1x2048x128) (s₂ := S32x1x2048x128) 1 _ _ _ _ rfl rfl (ix4 b 0 r l : S32x1x2048x128.Idx) ?_ rfl).trans ?_
  · intro a ha
    match a with
    | ⟨0, _⟩ => rfl
    | ⟨1, _⟩ => exact absurd rfl ha
    | ⟨2, _⟩ => rfl
    | ⟨3, _⟩ => rfl
  refine broadcastInDim_apply _ _ _ _ (ix3 b r l) ?_
  intro a
  match a with
  | ⟨0, _⟩ => rfl
  | ⟨1, _⟩ => rfl
  | ⟨2, _⟩ => rfl

/-- The reference's sorted rows. -/
def refSort (x : S32x65536x3.Idx → EReal) : (⟨2, ![32, 196608]⟩ : Shape).Idx → EReal :=
  Host.sort ⟨2, ![32, 196608]⟩ 1 (Cert.ReferenceIdeal.comparator_f32_d1 (F := Ideal)) (flat x)

/-- The sorted array's first halves hold the reference's sorted rows of the first argument, followed by infinities. -/
theorem sorted_left (x y : S32x65536x3.Idx → EReal) (b : Fin 32) (r : Fin 2048) (l : Fin 128) :
    sortedArr (stacked x y) (ix4 b 0 r l) = ext (fun k => refSort x (ix2 b k)) (bpos r l) := by
  have h : seqAt (stacked x y) b 0 = ext fun k => flat x (ix2 b k) :=
    funext fun i => (stacked_left x y b _ _).trans (laid_seq x b i)
  show sortSq (seqAt (stacked x y) b 0) (bpos r l) = _
  rw [h, sortSq_row]
  rfl

/-- The sorted array's second halves hold the reference's sorted rows of the second argument, followed by infinities. -/
theorem sorted_right (x y : S32x65536x3.Idx → EReal) (b : Fin 32) (r : Fin 2048) (l : Fin 128) :
    sortedArr (stacked x y) (ix4 b 1 r l) = ext (fun k => refSort y (ix2 b k)) (bpos r l) := by
  have h : seqAt (stacked x y) b 1 = ext fun k => flat y (ix2 b k) :=
    funext fun i => (stacked_right x y b _ _).trans (laid_seq y b i)
  show sortSq (seqAt (stacked x y) b 1) (bpos r l) = _
  rw [h, sortSq_row]
  rfl

/-- The reference's squared distances. -/
def refDist (x y : S32x65536x3.Idx → EReal) : FVec Ideal S32 .f32 :=
  Host.reduceAdd (F := Ideal) (mulf (subf (F := Ideal) (φ := .f32) (refSort x) (refSort y)) (subf (refSort x) (refSort y)))
    (constant S_ .f32 0x00000000#32) Cert.ReferenceIdeal.Gen.reducesTo_S32x196608_S32_d1 Cert.ReferenceIdeal.Gen.h_S_

/-- The kernel's squared distance of a batch is the reference's. -/
theorem distAt_eq (x y : S32x65536x3.Idx → EReal) (b : Fin 32) : distAt (sortedArr (stacked x y)) b = refDist x y (ix1 b) := by
  have h1 : refDist x y (ix1 b) = ∑ k : Fin 196608, (refSort x (ix2 b k) - refSort y (ix2 b k)) * (refSort x (ix2 b k) - refSort y (ix2 b k)) := by
    refine (Ideal.hostReduceAdd_r2_a1 Cert.ReferenceIdeal.Gen.reducesTo_S32x196608_S32_d1 _ (Ideal.ofBits .f32 0x00000000#32) (ix1 b)).trans ?_
    rw [Ideal.ofBits_zero_f32, zero_add]
    rfl
  rw [h1]
  unfold distAt
  refine sum_block _ _ ?_ ?_
  · intro r l
    have hl : (l.castAdd 32).val < 96 := l.isLt
    have hr := r.isLt
    have hp : (bpos r (l.castAdd 32)).val < 196608 := by
      show 2048 * l.val + r.val < 196608
      have := l.isLt
      omega
    rw [if_pos hl, sorted_left, sorted_right, ext_of_lt _ _ hp, ext_of_lt _ _ hp]
    rfl
  · intro r l
    have hl : ¬ (l.natAdd 96).val < 96 := by show ¬ 96 + l.val < 96; omega
    rw [if_neg hl, mul_zero]

/-- What the host program returns of the squared distances: the mean of their square roots. -/
def meanRoot (d : FVec Ideal S32 .f32) : FVec Ideal S_ .f32 :=
  Host.divf (Host.reduceAdd (Host.sqrt d) (constant S_ .f32 0x00000000#32) reducesTo_S32_S_d0 h_S_) (constant S_ .f32 0x42000000#32)

/-- The column of squared distances the host reads. -/
def column (D : S32x8x128.Idx → EReal) : FVec Ideal S32 .f32 :=
  shapeCast S32 (extractStridedSlice S32x1x1 ![0, 0, 0] D slices_S32x8x128_S32x1x1_0_0_0) shapeCasts_S32x1x1_S32

/-- The column, at an element. -/
theorem column_apply (D : S32x8x128.Idx → EReal) (b : Fin 32) : column D (ix1 b) = D (ix3 b 0 0) := by
  unfold column
  refine (shapeCast_apply _ _ _ (ix3 b 0 0) ?_).trans ?_
  · rw [Shape.rowMajor_val_three, Shape.rowMajor_val_one]
    show (b.val * 1 + 0) * 1 + 0 = b.val
    omega
  refine extractStridedSlice_apply _ _ _ _ (ix3 b 0 0) ?_
  intro a
  match a with
  | ⟨0, _⟩ => show b.val = 0 + b.val; omega
  | ⟨1, _⟩ => rfl
  | ⟨2, _⟩ => rfl

/-- The result is the mean of the roots of what the second region left. -/
theorem V8_v15 : V8 m (outs m) c main_v15 = meanRoot (column (dists m c)) := by
  have h : V8 m (outs m) c main_v15 = meanRoot (column (V7 m (outs m) c main_v10)) := by
    simp only [V8, hostOps2, TRef.binary, TRef.nullary, TRef.unary, TRef.toBuf, TRef.ofBuf, cast_eq]
    after_results <;> rfl
  rw [h]
  refine congrArg (fun D => meanRoot (column D)) ?_
  refine Eq.trans ?_ (outs_v10 m c)
  exact Function.update_self _ _ _

/-- The result is the reference's of the arguments. -/
theorem result_eq : V8 m (outs m) c main_v15
    = meanRoot (refDist (m ((c.tc : Thread nD τ).loc main_arg0)) (m ((c.tc : Thread nD τ).loc main_arg1))) := by
  rw [V8_v15]
  refine congrArg meanRoot (funext fun j => ?_)
  have hj : j = ix1 (j 0 : Fin 32) := eq_ix1 j
  rw [hj]
  refine (column_apply _ _).trans ?_
  rw [dists_eq, V5_v8]
  exact distAt_eq _ _ _

end Cert.Proof.KI

end
-- ==== Proof.lean ====
module

public import proofs.«01_k».proof.Defs
public import proofs.«01_k».proof.Proof.LaunchK
public import proofs.«01_k».proof.Proof.LaunchKI
public import proofs.«01_k».proof.Proof.HostVal
public import proofs.«01_k».proof.Proof.Gen.ReferenceIdeal.Run
public import Idealize.ShloMosaic.Init
public import Idealize.ShloMosaic.Adequacy

@[expose] public section

noncomputable section

namespace Cert.Proof

open Idealize.ShloMosaic Idealize.ShloMosaic.TcCoe Idealize.SL.Sem

/-- The kernel as printed terminates, keeps its arguments, and leaves every counter at zero. -/
theorem frame_K : Cert.quiescent_Kernel := fun m g _ =>
  (θ_run Cert.Kernel.defs _ _).mono (fun _ h => ⟨fun c => (h.1 c).1, h.2⟩) (K.run_main (F := Bits) m g)

/-- The idealized kernel terminates, keeps its arguments, and leaves every counter at zero. -/
theorem frame_KI : Cert.quiescent_KernelIdeal := fun m g _ =>
  (θ_run Cert.KernelIdeal.defs _ _).mono (fun _ h => ⟨fun c => (h.1 c).1, h.2⟩) (KI.run_main (F := Ideal) m g)

/-- The idealized reference terminates, keeps its arguments, and, having no counters, leaves them at zero. -/
theorem frame_RI : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Nothing was rewritten between the kernel and its idealization. -/
theorem preserves_K : Cert.preserves_Kernel_KernelIdeal := trivial

/-- From the same arguments the idealized kernel and the idealized reference end with the same result. -/
theorem algebraic : Cert.algebraic_KernelIdeal_ReferenceIdeal := fun m g m' g' _ hargs =>
  ⟨fun c => Cert.KernelIdeal.Gen.V8 m (KI.outs m) c Cert.KernelIdeal.main_v15,
    (θ_run Cert.KernelIdeal.defs _ _).mono (fun _ h c => ⟨(h.1 c).2, (h.1 c).1⟩) (KI.run_main (F := Ideal) m g),
    (θ_run Cert.ReferenceIdeal.defs _ _).mono (fun r h c => ⟨(h c).1.trans (by
      rw [(hargs c).1, (hargs c).2]
      exact (KI.result_eq m c).symm), (h c).2⟩) (Cert.ReferenceIdeal.Value.run (F := Ideal) m' g')⟩

/-- Everything the certificate claims. -/
theorem claim : Cert.Claim :=
  ⟨Cert.Kernel.Gen.facts, Cert.KernelIdeal.Gen.facts, Cert.ReferenceIdeal.Gen.facts,
    frame_K, frame_KI, frame_RI, preserves_K, algebraic⟩

end Cert.Proof
